-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![65536, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S512x1024 : Shape := ⟨2, ![512, 1024]⟩
abbrev S1x1024 : Shape := ⟨2, ![1, 1024]⟩
abbrev S7x1x1024 : Shape := ⟨3, ![7, 1, 1024]⟩
abbrev S7 : Shape := ⟨1, ![7]⟩
abbrev S_ : Shape := ⟨0, ![]⟩
abbrev S511x1024 : Shape := ⟨2, ![511, 1024]⟩
abbrev S2x1024 : Shape := ⟨2, ![2, 1024]⟩
abbrev S510x1024 : Shape := ⟨2, ![510, 1024]⟩
abbrev S4x1024 : Shape := ⟨2, ![4, 1024]⟩
abbrev S508x1024 : Shape := ⟨2, ![508, 1024]⟩
abbrev S8x1024 : Shape := ⟨2, ![8, 1024]⟩
abbrev S504x1024 : Shape := ⟨2, ![504, 1024]⟩
abbrev S16x1024 : Shape := ⟨2, ![16, 1024]⟩
abbrev S496x1024 : Shape := ⟨2, ![496, 1024]⟩
abbrev S32x1024 : Shape := ⟨2, ![32, 1024]⟩
abbrev S480x1024 : Shape := ⟨2, ![480, 1024]⟩
abbrev S64x1024 : Shape := ⟨2, ![64, 1024]⟩
abbrev S448x1024 : Shape := ⟨2, ![448, 1024]⟩
abbrev S128x1024 : Shape := ⟨2, ![128, 1024]⟩
abbrev S384x1024 : Shape := ⟨2, ![384, 1024]⟩
abbrev S256x1024 : Shape := ⟨2, ![256, 1024]⟩
abbrev S1 : Shape := ⟨1, ![1]⟩
abbrev S1x1x1024 : Shape := ⟨3, ![1, 1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S8192x1024, .bf16⟩
  | .local _ .vmem, ⟨3, _⟩ => ⟨S1x1024, .f32⟩
  | .local _ .vmem, ⟨4, _⟩ => ⟨S7x1x1024, .f32⟩
  | .local _ .vmem, ⟨5, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v64 : BitVec 32 := Scalar.addi v2 c1_i32_19
  let c8_i32_20 : BitVec 32 := 8#32
  let c0_i32_21 : BitVec 32 := 0#32
  let v65 : BitVec 1 := Scalar.cmpi .eq c8_i32_20 c0_i32_21
  let c1_i32_22 : BitVec 32 := 1#32
  let v66 : BitVec 32 := Scalar.select v65 c1_i32_22 c8_i32_20
  let v67 : BitVec 32 := Scalar.remsi v64 v66
  let c0_i32_24 : BitVec 32 := 0#32
  let v69 : BitVec 1 := Scalar.cmpi .slt v67 c0_i32_24
  let c0_i32_25 : BitVec 32 := 0#32
  let v70 : BitVec 1 := Scalar.cmpi .slt v66 c0_i32_25
  let v71 : BitVec 1 := Scalar.xori v69 v70
  let c0_i32_23 : BitVec 32 := 0#32
  let v68 : BitVec 1 := Scalar.cmpi .ne v67 c0_i32_23
  let v72 : BitVec 1 := Scalar.andi v71 v68
  let v73 : BitVec 32 := Scalar.addi v67 v66
  let v74 : BitVec 32 := Scalar.select v72 v73 v67
  let c1_i32_27 : BitVec 32 := 1#32
  let v75 : BitVec 32 := Scalar.muli v74 c1_i32_27
  let v76 : BitVec 32 := Scalar.addi c0_i32_28 v75
  v76.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v77 : BitVec 32 := Scalar.addi v2 c2_i32
  let c8_i32_29 : BitVec 32 := 8#32
  let c0_i32_30 : BitVec 32 := 0#32
  let v78 : BitVec 1 := Scalar.cmpi .eq c8_i32_29 c0_i32_30
  let c1_i32_31 : BitVec 32 := 1#32
  let v79 : BitVec 32 := Scalar.select v78 c1_i32_31 c8_i32_29
  let v80 : BitVec 32 := Scalar.remsi v77 v79
  let c0_i32_33 : BitVec 32 := 0#32
  let v82 : BitVec 1 := Scalar.cmpi .slt v80 c0_i32_33
  let c0_i32_34 : BitVec 32 := 0#32
  let v83 : BitVec 1 := Scalar.cmpi .slt v79 c0_i32_34
  let v84 : BitVec 1 := Scalar.xori v82 v83
  let c0_i32_32 : BitVec 32 := 0#32
  let v81 : BitVec 1 := Scalar.cmpi .ne v80 c0_i32_32
  let v85 : BitVec 1 := Scalar.andi v84 v81
  let v86 : BitVec 32 := Scalar.addi v80 v79
  let v87 : BitVec 32 := Scalar.select v85 v86 v80
  let c1_i32_36 : BitVec 32 := 1#32
  let v88 : BitVec 32 := Scalar.muli v87 c1_i32_36
  let v89 : BitVec 32 := Scalar.addi c0_i32_37 v88
  v89.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v90 : BitVec 32 := Scalar.addi v2 c3_i32
  let c8_i32_38 : BitVec 32 := 8#32
  let c0_i32_39 : BitVec 32 := 0#32
  let v91 : BitVec 1 := Scalar.cmpi .eq c8_i32_38 c0_i32_39
  let c1_i32_40 : BitVec 32 := 1#32
  let v92 : BitVec 32 := Scalar.select v91 c1_i32_40 c8_i32_38
  let v93 : BitVec 32 := Scalar.remsi v90 v92
  let c0_i32_42 : BitVec 32 := 0#32
  let v95 : BitVec 1 := Scalar.cmpi .slt v93 c0_i32_42
  let c0_i32_43 : BitVec 32 := 0#32
  let v96 : BitVec 1 := Scalar.cmpi .slt v92 c0_i32_43
  let v97 : BitVec 1 := Scalar.xori v95 v96
  let c0_i32_41 : BitVec 32 := 0#32
  let v94 : BitVec 1 := Scalar.cmpi .ne v93 c0_i32_41
  let v98 : BitVec 1 := Scalar.andi v97 v94
  let v99 : BitVec 32 := Scalar.addi v93 v92
  let v100 : BitVec 32 := Scalar.select v98 v99 v93
  let c1_i32_45 : BitVec 32 := 1#32
  let v101 : BitVec 32 := Scalar.muli v100 c1_i32_45
  let v102 : BitVec 32 := Scalar.addi c0_i32_46 v101
  v102.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v103 : BitVec 32 := Scalar.addi v2 c4_i32
  let c8_i32_47 : BitVec 32 := 8#32
  let c0_i32_48 : BitVec 32 := 0#32
  let v104 : BitVec 1 := Scalar.cmpi .eq c8_i32_47 c0_i32_48
  let c1_i32_49 : BitVec 32 := 1#32
  let v105 : BitVec 32 := Scalar.select v104 c1_i32_49 c8_i32_47
  let v106 : BitVec 32 := Scalar.remsi v103 v105
  let c0_i32_51 : BitVec 32 := 0#32
  let v108 : BitVec 1 := Scalar.cmpi .slt v106 c0_i32_51
  let c0_i32_52 : BitVec 32 := 0#32
  let v109 : BitVec 1 := Scalar.cmpi .slt v105 c0_i32_52
  let v110 : BitVec 1 := Scalar.xori v108 v109
  let c0_i32_50 : BitVec 32 := 0#32
  let v107 : BitVec 1 := Scalar.cmpi .ne v106 c0_i32_50
  let v111 : BitVec 1 := Scalar.andi v110 v107
  let v112 : BitVec 32 := Scalar.addi v106 v105
  let v113 : BitVec 32 := Scalar.select v111 v112 v106
  let c1_i32_54 : BitVec 32 := 1#32
  let v114 : BitVec 32 := Scalar.muli v113 c1_i32_54
  let v115 : BitVec 32 := Scalar.addi c0_i32_55 v114
  v115.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v116 : BitVec 32 := Scalar.addi v2 c5_i32
  let c8_i32_56 : BitVec 32 := 8#32
  let c0_i32_57 : BitVec 32 := 0#32
  let v117 : BitVec 1 := Scalar.cmpi .eq c8_i32_56 c0_i32_57
  let c1_i32_58 : BitVec 32 := 1#32
  let v118 : BitVec 32 := Scalar.select v117 c1_i32_58 c8_i32_56
  let v119 : BitVec 32 := Scalar.remsi v116 v118
  let c0_i32_60 : BitVec 32 := 0#32
  let v121 : BitVec 1 := Scalar.cmpi .slt v119 c0_i32_60
  let c0_i32_61 : BitVec 32 := 0#32
  let v122 : BitVec 1 := Scalar.cmpi .slt v118 c0_i32_61
  let v123 : BitVec 1 := Scalar.xori v121 v122
  let c0_i32_59 : BitVec 32 := 0#32
  let v120 : BitVec 1 := Scalar.cmpi .ne v119 c0_i32_59
  let v124 : BitVec 1 := Scalar.andi v123 v120
  let v125 : BitVec 32 := Scalar.addi v119 v118
  let v126 : BitVec 32 := Scalar.select v124 v125 v119
  let c1_i32_63 : BitVec 32 := 1#32
  let v127 : BitVec 32 := Scalar.muli v126 c1_i32_63
  let v128 : BitVec 32 := Scalar.addi c0_i32_64 v127
  v128.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v129 : BitVec 32 := Scalar.addi v2 c6_i32
  let c8_i32_65 : BitVec 32 := 8#32
  let c0_i32_66 : BitVec 32 := 0#32
  let v130 : BitVec 1 := Scalar.cmpi .eq c8_i32_65 c0_i32_66
  let c1_i32_67 : BitVec 32 := 1#32
  let v131 : BitVec 32 := Scalar.select v130 c1_i32_67 c8_i32_65
  let v132 : BitVec 32 := Scalar.remsi v129 v131
  let c0_i32_69 : BitVec 32 := 0#32
  let v134 : BitVec 1 := Scalar.cmpi .slt v132 c0_i32_69
  let c0_i32_70 : BitVec 32 := 0#32
  let v135 : BitVec 1 := Scalar.cmpi .slt v131 c0_i32_70
  let v136 : BitVec 1 := Scalar.xori v134 v135
  let c0_i32_68 : BitVec 32 := 0#32
  let v133 : BitVec 1 := Scalar.cmpi .ne v132 c0_i32_68
  let v137 : BitVec 1 := Scalar.andi v136 v133
  let v138 : BitVec 32 := Scalar.addi v132 v131
  let v139 : BitVec 32 := Scalar.select v137 v138 v132
  let c1_i32_72 : BitVec 32 := 1#32
  let v140 : BitVec 32 := Scalar.muli v139 c1_i32_72
  let v141 : BitVec 32 := Scalar.addi c0_i32_73 v140
  v141.toNat
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v142 : BitVec 32 := Scalar.addi v2 c7_i32
  let c8_i32_74 : BitVec 32 := 8#32
  let c0_i32_75 : BitVec 32 := 0#32
  let v143 : BitVec 1 := Scalar.cmpi .eq c8_i32_74 c0_i32_75
  let c1_i32_76 : BitVec 32 := 1#32
  let v144 : BitVec 32 := Scalar.select v143 c1_i32_76 c8_i32_74
  let v145 : BitVec 32 := Scalar.remsi v142 v144
  let c0_i32_78 : BitVec 32 := 0#32
  let v147 : BitVec 1 := Scalar.cmpi .slt v145 c0_i32_78
  let c0_i32_79 : BitVec 32 := 0#32
  let v148 : BitVec 1 := Scalar.cmpi .slt v144 c0_i32_79
  let v149 : BitVec 1 := Scalar.xori v147 v148
  let c0_i32_77 : BitVec 32 := 0#32
  let v146 : BitVec 1 := Scalar.cmpi .ne v145 c0_i32_77
  let v150 : BitVec 1 := Scalar.andi v149 v146
  let v151 : BitVec 32 := Scalar.addi v145 v144
  let v152 : BitVec 32 := Scalar.select v150 v151 v145
  let c1_i32_81 : BitVec 32 := 1#32
  let v153 : BitVec 32 := Scalar.muli v152 c1_i32_81
  let v154 : BitVec 32 := Scalar.addi c0_i32_82 v153
  v154.toNat
def k0_off1 (i : grid0.Coords) : Fin 2 → Nat :=
  let arg0 : BitVec 32 := BitVec.ofNat 32 (i 0).val
  let c512_i32 : BitVec 32 := 512#32
  let v49 : BitVec 32 := Scalar.muli arg0 c512_i32
  let v50 : Index := Scalar.indexCast v49
  let c0_12 : Index := 0#32
  ![v50.toNat, 0]
def k0_cond2 (i : grid0.Coords) : BitVec 1 :=
  let arg0 : BitVec 32 := BitVec.ofNat 32 (i 0).val
  let c15_i32 : BitVec 32 := 15#32
  let v56 : BitVec 1 := Scalar.cmpi .eq arg0 c15_i32
  let v57 : BitVec 32 := Scalar.extui v56
  let c0_i32_15 : BitVec 32 := 0#32
  let v58 : BitVec 1 := Scalar.cmpi .ne v57 c0_i32_15
  v58

def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v64 : BitVec 32 := Scalar.addi v2 c1_i32_21
  let c8_i32_22 : BitVec 32 := 8#32
  let v65 : BitVec 1 := Scalar.cmpi .slt v64 c8_i32_22
  let v66 : BitVec 32 := Scalar.extui v65
  let c0_i32_26 : BitVec 32 := 0#32
  let v67 : BitVec 1 := Scalar.cmpi .ne v66 c0_i32_26
  v67

def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v63 : BitVec 32 := Scalar.addi v2 c1_i32_20
  let c1_i32_142 : BitVec 32 := 1#32
  let v150 : BitVec 32 := Scalar.muli v63 c1_i32_142
  let v151 : BitVec 32 := Scalar.addi c0_i32_143 v150
  v151.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_27 : BitVec 32 := 2#32
  let v69 : BitVec 32 := Scalar.addi v2 c2_i32_27
  let c8_i32_28 : BitVec 32 := 8#32
  let v70 : BitVec 1 := Scalar.cmpi .slt v69 c8_i32_28
  let v71 : BitVec 32 := Scalar.extui v70
  let c0_i32_32 : BitVec 32 := 0#32
  let v72 : BitVec 1 := Scalar.cmpi .ne v71 c0_i32_32
  v72

def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v68 : BitVec 32 := Scalar.addi v2 c2_i32
  let c1_i32_142 : BitVec 32 := 1#32
  let v150 : BitVec 32 := Scalar.muli v68 c1_i32_142
  let v151 : BitVec 32 := Scalar.addi c0_i32_143 v150
  v151.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_33 : BitVec 32 := 3#32
  let v74 : BitVec 32 := Scalar.addi v2 c3_i32_33
  let c8_i32_34 : BitVec 32 := 8#32
  let v75 : BitVec 1 := Scalar.cmpi .slt v74 c8_i32_34
  let v76 : BitVec 32 := Scalar.extui v75
  let c0_i32_38 : BitVec 32 := 0#32
  let v77 : BitVec 1 := Scalar.cmpi .ne v76 c0_i32_38
  v77

def k0_dev10 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v73 : BitVec 32 := Scalar.addi v2 c3_i32
  let c1_i32_142 : BitVec 32 := 1#32
  let v150 : BitVec 32 := Scalar.muli v73 c1_i32_142
  let v151 : BitVec 32 := Scalar.addi c0_i32_143 v150
  v151.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_39 : BitVec 32 := 4#32
  let v79 : BitVec 32 := Scalar.addi v2 c4_i32_39
  let c8_i32_40 : BitVec 32 := 8#32
  let v80 : BitVec 1 := Scalar.cmpi .slt v79 c8_i32_40
  let v81 : BitVec 32 := Scalar.extui v80
  let c0_i32_44 : BitVec 32 := 0#32
  let v82 : BitVec 1 := Scalar.cmpi .ne v81 c0_i32_44
  v82

def k0_dev11 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v78 : BitVec 32 := Scalar.addi v2 c4_i32
  let c1_i32_142 : BitVec 32 := 1#32
  let v150 : BitVec 32 := Scalar.muli v78 c1_i32_142
  let v151 : BitVec 32 := Scalar.addi c0_i32_143 v150
  v151.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_45 : BitVec 32 := 5#32
  let v84 : BitVec 32 := Scalar.addi v2 c5_i32_45
  let c8_i32_46 : BitVec 32 := 8#32
  let v85 : BitVec 1 := Scalar.cmpi .slt v84 c8_i32_46
  let v86 : BitVec 32 := Scalar.extui v85
  let c0_i32_50 : BitVec 32 := 0#32
  let v87 : BitVec 1 := Scalar.cmpi .ne v86 c0_i32_50
  v87

def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v83 : BitVec 32 := Scalar.addi v2 c5_i32
  let c1_i32_142 : BitVec 32 := 1#32
  let v150 : BitVec 32 := Scalar.muli v83 c1_i32_142
  let v151 : BitVec 32 := Scalar.addi c0_i32_143 v150
  v151.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_51 : BitVec 32 := 6#32
  let v89 : BitVec 32 := Scalar.addi v2 c6_i32_51
  let c8_i32_52 : BitVec 32 := 8#32
  let v90 : BitVec 1 := Scalar.cmpi .slt v89 c8_i32_52
  let v91 : BitVec 32 := Scalar.extui v90
  let c0_i32_56 : BitVec 32 := 0#32
  let v92 : BitVec 1 := Scalar.cmpi .ne v91 c0_i32_56
  v92

def k0_dev13 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v88 : BitVec 32 := Scalar.addi v2 c6_i32
  let c1_i32_142 : BitVec 32 := 1#32
  let v150 : BitVec 32 := Scalar.muli v88 c1_i32_142
  let v151 : BitVec 32 := Scalar.addi c0_i32_143 v150
  v151.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v94 : BitVec 32 := Scalar.addi v2 c7_i32_57
  let c8_i32_58 : BitVec 32 := 8#32
  let v95 : BitVec 1 := Scalar.cmpi .slt v94 c8_i32_58
  let v96 : BitVec 32 := Scalar.extui v95
  let c0_i32_62 : BitVec 32 := 0#32
  let v97 : BitVec 1 := Scalar.cmpi .ne v96 c0_i32_62
  v97

def k0_dev14 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v93 : BitVec 32 := Scalar.addi v2 c7_i32
  let c1_i32_142 : BitVec 32 := 1#32
  let v150 : BitVec 32 := Scalar.muli v93 c1_i32_142
  let v151 : BitVec 32 := Scalar.addi c0_i32_143 v150
  v151.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S_, .bf16⟩
  | .hbm, ⟨2, _⟩ => ⟨S1024, .bf16⟩
  | .hbm, ⟨3, _⟩ => ⟨S_, .bf16⟩
  | .hbm, ⟨4, _⟩ => ⟨S65536x1024, .bf16⟩
  | .hbm, ⟨5, _⟩ => ⟨S_, .i32⟩
  | .hbm, ⟨6, _⟩ => ⟨S65536x1024, .bf16⟩
  | .hbm, ⟨7, _⟩ => ⟨S_, .i32⟩
  | .hbm, ⟨8, _⟩ => ⟨S1024, .bf16⟩
  | .hbm, ⟨9, _⟩ => ⟨S65536x1024, .bf16⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .bf16⟩
  | .hbm, ⟨14, _⟩ => ⟨S1024, .bf16⟩
  | .hbm, ⟨15, _⟩ => ⟨S1024, .bf16⟩
  | .hbm, ⟨16, _⟩ => ⟨S1x1024, .bf16⟩
  | .hbm, ⟨17, _⟩ => ⟨S_, .i32⟩
  | .hbm, ⟨18, _⟩ => ⟨S65536x1024, .bf16⟩
  | .hbm, ⟨19, _⟩ => ⟨S_, .i32⟩
  | .hbm, ⟨20, _⟩ => ⟨S_, .i32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 65536#32, 1#32⟩
-- ==== Proof.KernelIdeal.Protocol.lean ====
/-
The handshake and the transfers of the kernel, written as a schedule of duties.

Devices are numbered 0..7 and slot `j` (0..6) of a device's landing buffer receives the total of the device `j + 1`
places before it. Device `c` copies its total into slot `j` of device `c + j + 1`, for each `j` for which there is such
a device. Before any copy every device signals every other one's barrier semaphore once: the signal with which device
`nx j c` (the one `j + 1` places after `c`, cyclically) pays `c` hands `c` slot `j` of its own landing buffer, if the
two places do not wrap around.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.DatRel
public import Idealize.ShloMosaic.Lib.Pipeline.Kit
public import Idealize.ShloMosaic.Lib.ShareLeaves
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's, whose duties are named by slots -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The line of devices -/

/-- The device `j + 1` places after `c`, cyclically. -/
def nx (j : Fin 7) (c : Dev nD) : Dev nD := ⟨(c.val + j.val + 1) % 8, Nat.mod_lt _ (by decide)⟩
/-- The device `j + 1` places before `c`, cyclically. -/
def pv (j : Fin 7) (c : Dev nD) : Dev nD := ⟨(c.val + 7 - j.val) % 8, Nat.mod_lt _ (by decide)⟩

theorem pv_nx (j : Fin 7) (c : Dev nD) : pv j (nx j c) = c := by revert j c; decide
theorem nx_pv (j : Fin 7) (c : Dev nD) : nx j (pv j c) = c := by revert j c; decide
/-- Stepping forward by `j + 1` places permutes the devices. -/
def hop (j : Fin 7) : Dev nD ≃ Dev nD := ⟨nx j, pv j, pv_nx j, nx_pv j⟩

/-- Device `c` has a device `j + 1` places after it. -/
abbrev Fwd (c : Dev nD) (j : Fin 7) : Prop := c.val + j.val + 1 < 8
/-- Device `c` has a device `j + 1` places before it. -/
abbrev Bwd (c : Dev nD) (j : Fin 7) : Prop := j.val < c.val

theorem bwd_nx {c : Dev nD} {j : Fin 7} : Bwd (nx j c) j ↔ Fwd c j := by revert c j; decide
theorem fwd_pv {c : Dev nD} {j : Fin 7} : Fwd (pv j c) j ↔ Bwd c j := by revert c j; decide

/-! ## The memrefs and the semaphore cells -/

abbrev cM : Memref sig .tc .vmem S1x1024 .f32 := Memref.whole cc0_scratch0
abbrev lM : Memref sig .tc .vmem S7x1x1024 .f32 := Memref.whole cc0_scratch1
abbrev sM : Memref sig .tc .vmem S1x1024 .f32 := Memref.whole cc0_scratch2

theorem inb_slot (j : Fin 7) : ∀ a, (![j.val, 0, 0] : Fin 3 → ℕ) a + S1x1x1024.size a ≤ S7x1x1024.size a := by revert j; decide
/-- The rectangle of slot `j`. -/
abbrev slotR (j : Fin 7) : Rect S7x1x1024 := Rect.unit (s := S7x1x1024) ![j.val, 0, 0] S1x1x1024.size (inb_slot j)
/-- Slot `j` of the landing buffer, as the transfers name it. -/
abbrev slotM (j : Fin 7) : Memref sig .tc .vmem S1x1024 .f32 :=
  (lM.slice (slotR j) (fun _ => rfl)).squeeze S1x1024 squeezes_S1x1x1024_S1x1024

/-- The runtime's barrier semaphore, the send semaphore and the receive semaphore of slot `j`. -/
abbrev barS : Sem sig := (SemArray.scalar (sig.barrier 0 rfl) : Sems sig S_).sem
def sendS (j : Fin 7) : DmaSem sig := ⟨3 + j.val, lt_of_lt_of_le (Nat.add_lt_add_left j.isLt 3) (by decide)⟩
def recvS (j : Fin 7) : DmaSem sig := ⟨10 + j.val, lt_of_lt_of_le (Nat.add_lt_add_left j.isLt 10) (by decide)⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The credit of one transfer. -/
abbrev N : ℕ := (sM).view.dmaCredit
theorem N_pos : 0 < N := View.dmaCredit_pos _ (by decide)
theorem credit_slot (j : Fin 7) : (slotM j).view.dmaCredit = N := by fin_cases j <;> rfl

/-! ## Contents -/

/-- Device `c`'s block of `x` at grid point `t`. -/
def xblk (c : Dev nD) (t : Fin cfg0.N) : Vec F S512x1024 .bf16 := iblk m c 0 t

/-- The carry of device `c` before grid point `n`: the running product of the rows of its first `n` blocks. -/
def carryAt (c : Dev nD) : ℕ → Vec F S1x1024 .f32
  | 0 => k0_pay4
  | n + 1 => if h : n < cfg0.N then k0_pay3 (k0_pay8 (xblk m c ⟨n, h⟩)) k0_pay9 (carryAt c n) else carryAt c n

/-- The total of device `c`, as it is staged for the transfers. -/
def tot (c : Dev nD) : Vec F S1x1024 .f32 := k0_pay6 (carryAt m c 16)

/-- The block of the result that grid point `t` of device `c` stores. -/
def oblk (c : Dev nD) (t : Fin cfg0.N) : Vec F S512x1024 .bf16 := k0_pay2 (k0_pay8 (xblk m c t)) k0_pay9 (carryAt m c t.val)

/-! ## Points-tos -/

/-- Slot `j` of device `c`'s landing buffer, with the contents `f` there. -/
def slotPts (c : Dev nD) (j : Fin 7) (f : Buf (Elt F) ((slotM j).view.loc (c : Thread nD τ))) : sProp 𝕄 :=
  (slotM j).view.loc (c : Thread nD τ) ↦[(slotM j).view.set]{fullShare} f
/-- Slot `j` of device `c`, with some contents. -/
def slotAny (c : Dev nD) (j : Fin 7) : sProp 𝕄 := iprop(∃ f, slotPts (F := F) c j f)
/-- Slot `j` of device `c`, holding `T`. -/
def slotHas (c : Dev nD) (j : Fin 7) (T : Vec F S1x1024 .f32) : sProp 𝕄 :=
  iprop(∃ f, ⌜(slotM j).view.read (Elt F) f = T⌝ ∗ slotPts c j f)
/-- The share numbered `i` of device `c`'s staging row, which holds `c`'s total. -/
def stgLeaf (c : Dev nD) (i : Fin 8) : sProp 𝕄 :=
  (sM).view.loc (c : Thread nD τ) ↦[(sM).view.set]{ShareLeaves.leaf 3 fullShare i} (tot m c : Buf (Elt F) ((sM).view.loc (c : Thread nD τ)))

omit [FloatOps F] in
instance slotPts_storable (c : Dev nD) (j) (f) : BI.Storable (upEmb : UEmb _ 𝕄) (slotPts (F := F) c j f) := by unfold slotPts; infer_instance
omit [FloatOps F] in
instance slotAny_storable (c : Dev nD) (j) : BI.Storable (upEmb : UEmb _ 𝕄) (slotAny (F := F) c j) := by unfold slotAny; infer_instance
omit [FloatOps F] in
instance slotHas_storable (c : Dev nD) (j) (T) : BI.Storable (upEmb : UEmb _ 𝕄) (slotHas (F := F) c j T) := by unfold slotHas; infer_instance
instance stgLeaf_storable (c : Dev nD) (i) : BI.Storable (upEmb : UEmb _ 𝕄) (stgLeaf (F := F) m c i) := by unfold stgLeaf; infer_instance

/-! ## The schedule -/

/-- What the signal of slot `j` hands device `c`: slot `j` of the device `j + 1` places after it, and that this device
    has reached round 0 of the slot's receive cell; nothing if there is no such device. -/
def barPay (c : Dev nD) (j : Fin 7) : sProp 𝕄 :=
  if Fwd c j then iprop(slotAny (nx j c) j ∗ reached ER (recvCell (nx j c) j) 0) else iprop(emp)

omit [FloatOps F] in
instance barPay_storable (c : Dev nD) (j) : BI.Storable (upEmb : UEmb _ 𝕄) (barPay (F := F) c j) := by
  unfold barPay; split <;> infer_instance

/-- One round, round 0. A barrier cell has one duty of one unit per slot; a send cell and a receive cell have one duty
    of a transfer's credit each, if the transfer takes place. -/
def rd : Rounds.Schedule (GSem nD τ sig) (Fin 7) 𝕄 where
  duties g r := if r = 0 ∧ g.1.2 = .tc then
      (match g.2 with
        | .reg s => if s = barS then Finset.univ else ∅
        | .dma q => if h : 3 ≤ q.val ∧ q.val < 10 then (if g.1.1.val + (q.val - 3) + 1 < 8 then {0} else ∅)
            else if 10 ≤ q.val then (if q.val - 10 < g.1.1.val then {0} else ∅) else ∅)
    else ∅
  unitless _ := False
  amount g _ _ := match g.2 with | .reg _ => 1 | .dma _ => N
  payload g _ d := match g.2 with
    | .reg _ => barPay g.1.1 d
    | .dma q => if h : 3 ≤ q.val ∧ q.val < 10 then stgLeaf m g.1.1 ⟨q.val - 3, by omega⟩
        else if h : 10 ≤ q.val ∧ q.val < 17 then slotHas g.1.1 ⟨q.val - 10, by omega⟩ (tot m (pv ⟨q.val - 10, by omega⟩ g.1.1))
        else iprop(emp)
  amount_pos g _ _ _ := by
    rcases g with ⟨t, s | q⟩
    · exact Nat.one_pos
    · exact N_pos

instance rd_payload_storable (g : GSem nD τ sig) (r : ℕ) (d : Fin 7) :
    BI.Storable (upEmb : UEmb _ 𝕄) ((rd (F := F) m).payload g r d) := by
  rcases g with ⟨t, s | q⟩
  · show BI.Storable upEmb (barPay t.1 d); infer_instance
  · dsimp only [rd]
    (repeat' split) <;> infer_instance

section Sched
variable (c : Dev nD) (j : Fin 7)

theorem duties_bar : (rd (F := F) m).duties (barCell c) 0 = Finset.univ := by
  dsimp only [rd]; rw [if_pos ⟨rfl, rfl⟩]; exact if_pos rfl
theorem duties_send : (rd (F := F) m).duties (sendCell c j) 0 = if Fwd c j then {0} else ∅ := by
  have h : 3 ≤ (sendS j).val ∧ (sendS j).val < 10 := by simp only [sendS]; omega
  have e : (sendS j).val - 3 = j.val := by simp only [sendS]; omega
  dsimp only [rd]; rw [if_pos ⟨rfl, rfl⟩, dif_pos h, e]
theorem duties_recv : (rd (F := F) m).duties (recvCell c j) 0 = if Bwd c j then {0} else ∅ := by
  have h : ¬ (3 ≤ (recvS j).val ∧ (recvS j).val < 10) := by simp only [recvS]; omega
  have h' : 10 ≤ (recvS j).val := by simp only [recvS]; omega
  have e : (recvS j).val - 10 = j.val := by simp only [recvS]; omega
  dsimp only [rd]; rw [if_pos ⟨rfl, rfl⟩, dif_neg h, if_pos h', e]
theorem duties_later (g : GSem nD τ sig) : ∀ r, 1 ≤ r → (rd (F := F) m).duties g r = ∅ :=
  fun r hr => by dsimp only [rd]; rw [if_neg fun h => by omega]
theorem duties_send_all (h : ¬ Fwd c j) : ∀ r, 0 ≤ r → (rd (F := F) m).duties (sendCell c j) r = ∅ := fun r _ => by
  rcases Nat.eq_zero_or_pos r with rfl | hr
  · rw [duties_send, if_neg h]
  · exact duties_later m _ r hr
theorem duties_recv_all (h : ¬ Bwd c j) : ∀ r, 0 ≤ r → (rd (F := F) m).duties (recvCell c j) r = ∅ := fun r _ => by
  rcases Nat.eq_zero_or_pos r with rfl | hr
  · rw [duties_recv, if_neg h]
  · exact duties_later m _ r hr

theorem payload_bar (d : Fin 7) : (rd (F := F) m).payload (barCell c) 0 d = barPay c d := rfl
theorem payload_send (d : Fin 7) : (rd (F := F) m).payload (sendCell c j) 0 d = stgLeaf m c j.castSucc := by
  have h : 3 ≤ (sendS j).val ∧ (sendS j).val < 10 := by simp only [sendS]; omega
  dsimp only [rd]; rw [dif_pos h]
  congr 1; apply Fin.ext; simp only [sendS, Fin.val_castSucc]; omega
theorem payload_recv (d : Fin 7) : (rd (F := F) m).payload (recvCell c j) 0 d = slotHas c j (tot m (pv j c)) := by
  have h : ¬ (3 ≤ (recvS j).val ∧ (recvS j).val < 10) := by simp only [recvS]; omega
  have h' : 10 ≤ (recvS j).val ∧ (recvS j).val < 17 := by simp only [recvS]; omega
  have e : (⟨(recvS j).val - 10, by omega⟩ : Fin 7) = j := Fin.ext (by simp only [recvS]; omega)
  dsimp only [rd]; rw [dif_neg h, dif_pos h', e]

theorem amount_bar (d : Fin 7) : (rd (F := F) m).amount (barCell c) 0 d = 1 := rfl
theorem amount_send (d : Fin 7) : (rd (F := F) m).amount (sendCell c j) 0 d = N := rfl
theorem amount_recv (d : Fin 7) : (rd (F := F) m).amount (recvCell c j) 0 d = N := rfl

theorem expect_bar : (rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (h : Fwd c j) : (rd (F := F) m).expect (sendCell c j) 0 = N := by
  unfold Schedule.expect Schedule.amountOf; rw [duties_send, if_pos h, Finset.sum_singleton, amount_send]
theorem expect_recv (h : Bwd c j) : (rd (F := F) m).expect (recvCell c j) 0 = N := by
  unfold Schedule.expect Schedule.amountOf; rw [duties_recv, if_pos h, Finset.sum_singleton, amount_recv]

/-- The payloads of a round no duty of which is taken yet: of the barrier cell, of a send cell, of a receive cell. -/
theorem rest_bar : bigSep ((rd (F := F) m).duties (barCell c) 0 \ ∅) (fun d => (rd (F := F) m).payload (barCell c) 0 d)
    = bigSep Finset.univ fun j : Fin 7 => barPay (F := F) c j := by
  rw [Finset.sdiff_empty, duties_bar]; rfl
theorem rest_send (h : Fwd c j) : bigSep ((rd (F := F) m).duties (sendCell c j) 0 \ ∅) (fun d => (rd (F := F) m).payload (sendCell c j) 0 d)
    = stgLeaf m c j.castSucc := by
  rw [Finset.sdiff_empty, duties_send, if_pos h, bigSep_singleton, payload_send]
theorem rest_recv (h : Bwd c j) : bigSep ((rd (F := F) m).duties (recvCell c j) 0 \ ∅) (fun d => (rd (F := F) m).payload (recvCell c j) 0 d)
    = slotHas c j (tot m (pv j c)) := by
  rw [Finset.sdiff_empty, duties_recv, if_pos h, bigSep_singleton, payload_recv]

end Sched

/-! ## What each device owes at launch; the levels -/

/-- What device `c`'s transfer into slot `j` owes: the credit of the receive cell it lands on, if it takes place. -/
def oweR (c : Dev nD) (j : Fin 7) : CellTallies nD τ sig Unit := if Fwd c j then tallyAt (recvCell (nx j c) j) () N else 0
/-- What device `c`'s signal of slot `j` owes: one unit of the barrier of the device `j + 1` places before it. -/
def oweB (c : Dev nD) (j : Fin 7) : CellTallies nD τ sig Unit := tallyAt (barCell (pv j c)) () 1

/-- What is owed after the barrier: the transfers, the first one last. -/
def O₁ (c : Dev nD) : CellTallies nD τ sig Unit :=
  0 + oweR c 6 + oweR c 5 + oweR c 4 + oweR c 3 + oweR c 2 + oweR c 1 + oweR c 0
/-- What is owed at launch: the transfers and the signals, the first signal (slot 6's) last. -/
def O₀ (c : Dev nD) : CellTallies nD τ sig Unit :=
  O₁ c + oweB c 0 + oweB c 1 + oweB c 2 + oweB c 3 + oweB c 4 + oweB c 5 + oweB c 6

theorem O₁_sum (c : Dev nD) : O₁ c = ∑ j : Fin 7, oweR c j := by
  rw [Fin.sum_univ_seven]; unfold O₁; rw [zero_add]; ac_rfl
theorem O₀_sum (c : Dev nD) : O₀ c = (∑ j : Fin 7, oweR c j) + ∑ j : Fin 7, oweB c j := by
  rw [← O₁_sum, Fin.sum_univ_seven]; unfold O₀; simp only [add_assoc]

def L (g : GSem nD τ sig) : Finset Unit := if g.1.2 = .tc then {()} else ∅
/-- Barrier cells at 1, receive cells at 2, the staging and the send cells at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_sum_apply {ι : Type} (s : Finset ι) (f : ι → CellTallies nD τ sig Unit) (g : GSem nD τ sig) (u : Unit) :
    (∑ i ∈ s, f i) g u = ∑ i ∈ s, f i g u := by
  classical
  induction s using Finset.induction_on with
  | empty => simp
  | insert a s ha ih => rw [Finset.sum_insert ha, Finset.sum_insert ha, Pi.add_apply, Finsupp.add_apply, ih]

theorem oweR_pos {c : Dev nD} {j : Fin 7} {g : GSem nD τ sig} {u : Unit} (h : 0 < oweR c j g u) : g = recvCell (nx j c) j := by
  unfold oweR at h
  split at h
  · rw [tallyAt_apply] at h
    by_contra hn
    rw [if_neg fun h' => hn h'.1] at h
    exact Nat.lt_irrefl 0 h
  · exact absurd h (Nat.lt_irrefl 0)
theorem oweB_pos {c : Dev nD} {j : Fin 7} {g : GSem nD τ sig} {u : Unit} (h : 0 < oweB c j g u) : g = barCell (pv j c) := by
  unfold oweB at h
  rw [tallyAt_apply] at h
  by_contra hn
  rw [if_neg fun h' => hn h'.1] at h
  exact Nat.lt_irrefl 0 h

theorem O₁_pos {c : Dev nD} {g : GSem nD τ sig} {u : Unit} (h : 0 < O₁ c g u) : ∃ j, g = recvCell (nx j c) j := by
  rw [O₁_sum, tally_sum_apply] at h
  obtain ⟨j, -, hj⟩ := Finset.exists_ne_zero_of_sum_ne_zero (Nat.pos_iff_ne_zero.mp h)
  exact ⟨j, oweR_pos (Nat.pos_of_ne_zero hj)⟩
theorem O₀_pos {c : Dev nD} {g : GSem nD τ sig} {u : Unit} (h : 0 < O₀ c g u) :
    (∃ j, g = recvCell (nx j c) j) ∨ ∃ j, g = barCell (pv j c) := by
  rw [O₀_sum, Pi.add_apply, Finsupp.add_apply, tally_sum_apply, tally_sum_apply] at h
  rcases Nat.eq_zero_or_pos (∑ j : Fin 7, oweR c j g u) with h0 | h0
  · rw [h0, Nat.zero_add] at h
    obtain ⟨j, -, hj⟩ := Finset.exists_ne_zero_of_sum_ne_zero (Nat.pos_iff_ne_zero.mp h)
    exact Or.inr ⟨j, oweB_pos (Nat.pos_of_ne_zero hj)⟩
  · obtain ⟨j, -, hj⟩ := Finset.exists_ne_zero_of_sum_ne_zero (Nat.pos_iff_ne_zero.mp h0)
    exact Or.inl ⟨j, oweR_pos (Nat.pos_of_ne_zero hj)⟩

theorem lv_recv (c : Dev nD) (j : Fin 7) (u : Unit) : lv (recvCell c j) u = 2 := if_pos (by simp only [recvS]; omega)
theorem lv_bar (c : Dev nD) (u : Unit) : lv (barCell c) u = 1 := rfl

/-- A wait on a staging semaphore is allowed at every point of the run: whatever is owed lies above it. -/
theorem mayWait_stage (c : Dev nD) (q : DmaSem sig) (hq : q.val < 10) (O : CellTallies nD τ sig Unit) (hO : O = O₀ c ∨ O = O₁ c ∨ O = 0) :
    (levAts L lv : sProp 𝕄) ⊢ MayWait (c : Thread nD τ) (.dma q) () O := by
  have key : ∀ O : CellTallies nD τ sig Unit,
      (∀ (g : GSem nD τ sig) (u : Unit), 0 < O g u → (∃ d j, g = recvCell d j) ∨ ∃ d, g = barCell d) →
      ((levAts L lv : sProp 𝕄) ⊢ MayWait (c : Thread nD τ) (.dma q) () O) := fun O h =>
    MayOwe.of_cut (L := L) (lev := lv) 0 (fun p hp => by rw [Finset.mem_singleton.mp hp, L_tc]; exact Finset.mem_singleton_self _)
      (fun g u hg => by rcases h g u hg with ⟨d, j, rfl⟩ | ⟨d, rfl⟩ <;> exact Finset.mem_singleton_self _)
      (fun p hp => by rw [Finset.mem_singleton.mp hp]; exact le_of_eq (if_neg (by omega)))
      (fun g u hg => by
        rcases h g u hg with ⟨d, j, rfl⟩ | ⟨d, rfl⟩
        · rw [lv_recv]; decide
        · rw [lv_bar]; decide)
  rcases hO with rfl | rfl | rfl
  · exact key _ fun g u hg => (O₀_pos hg).imp (fun ⟨j, h⟩ => ⟨_, j, h⟩) (fun ⟨j, h⟩ => ⟨_, h⟩)
  · exact key _ fun g u hg => Or.inl ((O₁_pos hg).imp' (nx · c) fun j h => ⟨j, h⟩)
  · rw [MayWait_zero]; iintro -; iempintro

/-- The wait on the barrier is allowed while the transfers are owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp, lv_bar])
    (fun g u hg => by obtain ⟨j, rfl⟩ := O₁_pos hg; rw [lv_recv]; decide)

end Cert.KernelIdeal.Scan

end
-- ==== Proof.KernelIdeal.Steps.lean ====
/-
The effects of the kernel's body, one at a time and each guarded as the kernel guards it: the seven signals, the wait on
the barrier, the seven transfers and the waits on their two sides. Each is a triple whose precondition speaks of one
slot and says what is held both when the guard is true and when it is false, so that the body's proof makes no case
distinction on the device.
-/
module

public import proofs.«01_k».proof.Proof.KernelIdeal.Protocol

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, numbered, and what is known of them throughout -/

/-- The protocol's cells on one device: the barrier, and a send cell (`false`) and a receive cell (`true`) per slot. -/
abbrev CI : Type := Option (Fin 7 × Bool)
def csem : CI → SemLoc sig
  | none => .reg barS
  | some (j, false) => .dma (sendS j)
  | some (j, true) => .dma (recvS j)
abbrev kcell (ck : Dev nD × CI) : GSem nD τ sig := ((ck.1 : Thread nD τ), csem ck.2)

/-- The invariants of all cells under the names `K`, and that each has reached round 0. -/
def records (K : Dev nD × CI → ℕ) : sProp 𝕄 :=
  iprop((bigSep Finset.univ fun ck : Dev nD × CI => cellInv ER (rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (rd m) (K ck) (kcell ck) := by
  have h : (bigSep Finset.univ fun ck : Dev nD × CI => (cellInv ER (rd m) (K ck) (kcell ck) : sProp 𝕄)) ⊢ cellInv ER (rd m) (K ck) (kcell ck) :=
    bigSep_elim (Finset.mem_univ ck)
  unfold records
  iintro ⟨#H, -⟩
  iapply h; iexact H
theorem reached_at (K : Dev nD × CI → ℕ) (ck : Dev nD × CI) : records m K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, #H⟩
  iapply h; iexact H

variable (K : Dev nD × CI → ℕ)

/-- Owing `O`, whatever has been waited for. -/
def owing (c : Dev nD) (O : CellTallies nD τ sig Unit) : sProp 𝕄 := iprop(∃ W, owes (c : Thread nD τ) O W)

/-- The weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpc_ret (c : Dev nD) {α : Type} (a : α) (Q : α → sProp 𝕄) : Q a ⊢ wpc c (.ret a) Q := by
  iintro H
  rw [show wpc c (.ret a) Q = wp frame (wpE (defs₀ (F := F)) 𝒱₀ (c : Thread nD τ) none) Set.univ (.ret a) Q from rfl, wp_ret]
  imodintro; iexact H

/-! ## A transfer -/

/-- Before the transfer into slot `j`: the slot on the receiving device and the two duty tokens. -/
def sendPre (c : Dev nD) (j : Fin 7) : sProp 𝕄 :=
  iprop((if Fwd c j then slotAny (nx j c) j else iprop(emp)) ∗ dutyTok ER (sendCell c j) 0 0 ∗ dutyTok ER (recvCell (nx j c) j) 0 0)
/-- After it: the credit for the wait on the send cell; the share of the staging row if there was no transfer. -/
def sendMid (c : Dev nD) (j : Fin 7) : sProp 𝕄 :=
  if Fwd c j then cred (tallyAt (sendCell c j) () N) else stgLeaf m c j.castSucc

omit [FloatOps F] in
/-- What the source row's reading leaves in the slot, whatever was there. -/
theorem read_landing (j : Fin 7) (fd : (slotM j).view.ty.Contents (Elt F)) (fs : Vec F S1x1024 .f32) :
    (slotM j).view.read (Elt F) ((slotM j).view.write (Elt F) fd ((sM).view.read (Elt F) fs) Finset.univ) = fs := by
  rw [View.read_write_univ]
  exact View.read_whole _ _

theorem send_step (c : Dev nD) (j : Fin 7) {C : Prop} [Decidable C] (hC : C ↔ Fwd c j) (n : C → Dev nD) (hn : ∀ h, n h = nx j c)
    (O : CellTallies nD τ sig Unit) {dst : Memref sig .tc .vmem S1x1024 .f32} (hdst : dst = slotM j)
    {qs qr : DmaSem sig} (hqs : qs = sendS j) (hqr : qr = recvS j)
    {hsc : dst.view.ref.isScScratch = false} {hx : (sM).view.WordExact} {hx' : dst.view.WordExact}
    {hty : ∀ h, DmaTarget.Typed .vmem (.dma qr) (.remote (Dev.tc (n h) : Thread nD τ) dst (.dma qs) hsc)}
    {α : Type} {R : Prog (TpuEff nD τ sig (Elt F) Λ₀ .tc) α} {Q : α → sProp 𝕄} :
    iprop(records m K ∗ sendPre c j ∗ stgLeaf m c j.castSucc ∗ owing c (O + oweR c j)
        ∗ ((sendMid m c j ∗ owing c O) -∗ wpc c R Q))
      ⊢ wpc c (if h : C then .op (.enqueueDma sM (.remote (Dev.tc (n h) : Thread nD τ) dst (.dma qs) hsc) (.dma qr) hx hx' (hty h)) fun _ => R
          else R) Q := by
  subst hdst hqs hqr
  unfold sendPre sendMid oweR owing
  by_cases h : C
  · have hF := hC.mp h
    rw [dif_pos h, if_pos hF, if_pos hF, if_pos hF]
    have e := hn h
    generalize hty h = ht
    revert ht
    generalize n h = d at e ⊢
    subst e
    intro ht
    unfold slotAny slotPts
    iintro ⟨#HR, ⟨⟨%fd, Hd⟩, HtS, HtV⟩, Hs, ⟨%W, HO⟩, HQ⟩
    unfold stgLeaf
    iapply (Rounds.wp_send_pointsTo 𝒱₀ ER (rd m) (c : Thread nD τ) none (κ₁ := K (c, some (j, false))) (κ₂ := K (nx j c, some (j, true)))
      (src := sM) (dst := slotM j) (c' := (nx j c : Thread nD τ)) (sS := .dma (sendS j)) (sem := .dma (recvS j))
      (r₁ := 0) (r₂ := 0) (d₁ := 0) (d₂ := 0) (fd := fd) (fs := tot m c)
      (by rw [duties_send, if_pos hF]; exact Finset.mem_singleton_self _)
      (by rw [duties_recv, if_pos (bwd_nx.mpr hF)]; exact Finset.mem_singleton_self _)
      () () N (credit_slot j) (amount_send m c j 0) (amount_recv m (nx j c) j 0) O rfl (W := W)
      (by rw [payload_send]; exact BI.Entails.refl _)
      (by
        rw [payload_recv, pv_nx]; unfold slotHas slotPts
        iintro H
        iexists _
        isplitr
        · ipureintro; exact read_landing j fd (tot m c)
        · iexact H)) $$ [Hd Hs HO HtS HtV]
    · isplitr; · iapply (inv_at m K (c, some (j, false))); iexact HR
      isplitr; · iapply (inv_at m K (nx j c, some (j, true))); iexact HR
      isplitl [Hs]; · iexact Hs
      isplitl [Hd]; · iexact Hd
      isplitl [HO]; · iexact HO
      isplitl [HtS]; · iexact HtS
      isplitr; · iapply (reached_at m K (c, some (j, false))); iexact HR
      isplitl [HtV]; · iexact HtV
      iapply (reached_at m K (nx j c, some (j, true))); iexact HR
    iintro ⟨Hc, HO⟩
    iapply HQ
    isplitl [Hc]; · iexact Hc
    iexists W; iexact HO
  · have hF : ¬ Fwd c j := fun h' => h (hC.mpr h')
    rw [dif_neg h, if_neg hF, if_neg hF, if_neg hF, add_zero]
    iintro ⟨-, -, Hs, HO, HQ⟩
    iapply HQ
    isplitl [Hs] <;> iassumption

/-! ## The wait for a landing, and the wait for a transfer's source -/

/-- Before the wait on the receive cell of slot `j`: the credit if a total is to land there, the slot itself if not. -/
def recvPre (c : Dev nD) (j : Fin 7) : sProp 𝕄 :=
  iprop((if Bwd c j then cred (tallyAt (recvCell c j) () N) else slotAny c j) ∗ atPos ER (recvCell c j) 0 ∅ 0)
/-- After it: the cell's counter at zero, and the slot, which holds the total of the device `j + 1` places before if
    there is one. -/
def recvPost (c : Dev nD) (j : Fin 7) : sProp 𝕄 :=
  iprop((∃ T, ⌜Bwd c j → T = tot m (pv j c)⌝ ∗ slotHas c j T) ∗ semVal (recvCell c j) 0)

theorem recv_step (c : Dev nD) (j : Fin 7) {C : Prop} [Decidable C] (hC : C ↔ Bwd c j)
    {dst : Memref sig .tc .vmem S1x1024 .f32} (hdst : dst = slotM j) {qr : DmaSem sig} (hqr : qr = recvS j)
    {hx : (sM).view.WordExact} {hx' : dst.view.WordExact} {α : Type} {R : Prog (TpuEff nD τ sig (Elt F) Λ₀ .tc) α} {Q : α → sProp 𝕄} :
    iprop(records m K ∗ recvPre c j ∗ owing c 0 ∗ ((recvPost m c j ∗ owing c 0) -∗ wpc c R Q))
      ⊢ wpc c (if h : C then .op (.waitDma2 qr sM dst hx hx') fun _ => R else R) Q := by
  subst hdst hqr
  unfold recvPre recvPost owing
  by_cases h : C
  · have hB := hC.mp h
    rw [dif_pos h, if_pos hB]
    iintro ⟨#HR, ⟨Hc, Hat⟩, ⟨%W, HO⟩, HQ⟩
    iapply (Rounds.wp_wait_rest_token 𝒱₀ ER (rd m) (c : Thread nD τ) none (κ := K (c, some (j, true)))
      (wpE_waitDma2_eq 𝒱₀ (c : Thread nD τ) none Set.univ) (Set.mem_univ _) () (O := 0) (W := W) (R := 0) (m := 0) (T := ∅)
      (by rw [Nat.zero_add, expect_recv m c j hB, credit_slot j])) $$ [Hc HO Hat]
    · isplitr; · iapply (inv_at m K (c, some (j, true))); iexact HR
      isplitl [Hc]; · rw [credit_slot j]; iexact Hc
      isplitl [HO]; · iexact HO
      isplitr; · rw [MayWait_zero]; iempintro
      iexact Hat
    iintro ⟨HO, Hat, -, Hpay⟩
    ihave Hpay := (Entails.of_eq (rest_recv m c j hB)) $$ Hpay
    imod (Rounds.cell_close ER (rd m) (Set.mem_univ (K (c, some (j, true)))) (fun h => h) (R := 0 + 1) (duties_later m (recvCell c j))) $$ [Hat] with Hz
    · isplitr; · iapply (inv_at m K (c, some (j, true))); iexact HR
      iexact Hat
    iapply HQ
    isplitl [Hpay Hz]
    · isplitl [Hpay]
      · iexists (tot m (pv j c))
        isplitr; · ipureintro; exact fun _ => rfl
        iexact Hpay
      · iexact Hz
    · iexists _; iexact HO
  · have hB : ¬ Bwd c j := fun h' => h (hC.mpr h')
    rw [dif_neg h, if_neg hB]
    unfold slotAny slotHas
    iintro ⟨#HR, ⟨⟨%f, Hs⟩, Hat⟩, HO, HQ⟩
    imod (Rounds.cell_close ER (rd m) (Set.mem_univ (K (c, some (j, true)))) (fun h => h) (R := 0) (duties_recv_all m c j hB)) $$ [Hat] with Hz
    · isplitr; · iapply (inv_at m K (c, some (j, true))); iexact HR
      iexact Hat
    iapply HQ
    isplitl [Hs Hz]
    · isplitl [Hs]
      · iexists ((slotM j).view.read (Elt F) f)
        isplitr; · ipureintro; exact fun h => absurd h hB
        iexists f
        isplitr; · ipureintro; rfl
        iexact Hs
      · iexact Hz
    · iexact HO

/-- Before the wait on the send cell of slot `j`; after it: the share of the staging row again, the counter at zero. -/
def backPre (c : Dev nD) (j : Fin 7) : sProp 𝕄 := iprop(sendMid m c j ∗ atPos ER (sendCell c j) 0 ∅ 0)
def backPost (c : Dev nD) (j : Fin 7) : sProp 𝕄 := iprop(stgLeaf m c j.castSucc ∗ semVal (sendCell c j) 0)

theorem back_step (c : Dev nD) (j : Fin 7) {C : Prop} [Decidable C] (hC : C ↔ Fwd c j)
    {src : Memref sig .tc .vmem S1x1024 .f32} {qs : DmaSem sig} (hqs : qs = sendS j)
    {hx : src.view.WordExact} {hx' : (sM).view.WordExact} {α : Type} {R : Prog (TpuEff nD τ sig (Elt F) Λ₀ .tc) α} {Q : α → sProp 𝕄} :
    iprop(records m K ∗ backPre m c j ∗ owing c 0 ∗ ((backPost m c j ∗ owing c 0) -∗ wpc c R Q))
      ⊢ wpc c (if h : C then .op (.waitDma2 qs src sM hx hx') fun _ => R else R) Q := by
  subst hqs
  unfold backPre backPost sendMid owing
  by_cases h : C
  · have hF := hC.mp h
    rw [dif_pos h, if_pos hF]
    iintro ⟨#HR, ⟨Hc, Hat⟩, ⟨%W, HO⟩, HQ⟩
    iapply (Rounds.wp_wait_rest_token 𝒱₀ ER (rd m) (c : Thread nD τ) none (κ := K (c, some (j, false)))
      (wpE_waitDma2_eq 𝒱₀ (c : Thread nD τ) none Set.univ) (Set.mem_univ _) () (O := 0) (W := W) (R := 0) (m := 0) (T := ∅)
      (by rw [Nat.zero_add, expect_send m c j hF])) $$ [Hc HO Hat]
    · isplitr; · iapply (inv_at m K (c, some (j, false))); iexact HR
      isplitl [Hc]; · iexact Hc
      isplitl [HO]; · iexact HO
      isplitr; · rw [MayWait_zero]; iempintro
      iexact Hat
    iintro ⟨HO, Hat, -, Hpay⟩
    ihave Hpay := (Entails.of_eq (rest_send m c j hF)) $$ Hpay
    imod (Rounds.cell_close ER (rd m) (Set.mem_univ (K (c, some (j, false)))) (fun h => h) (R := 0 + 1) (duties_later m (sendCell c j))) $$ [Hat] with Hz
    · isplitr; · iapply (inv_at m K (c, some (j, false))); iexact HR
      iexact Hat
    iapply HQ
    isplitl [Hpay Hz]
    · isplitl [Hpay] <;> iassumption
    · iexists _; iexact HO
  · have hF : ¬ Fwd c j := fun h' => h (hC.mpr h')
    rw [dif_neg h, if_neg hF]
    iintro ⟨#HR, ⟨Hs, Hat⟩, HO, HQ⟩
    imod (Rounds.cell_close ER (rd m) (Set.mem_univ (K (c, some (j, false)))) (fun h => h) (R := 0) (duties_send_all m c j hF)) $$ [Hat] with Hz
    · isplitr; · iapply (inv_at m K (c, some (j, false))); iexact HR
      iexact Hat
    iapply HQ
    isplitl [Hs Hz]
    · isplitl [Hs] <;> iassumption
    · iexact HO

/-! ## The signals and the wait on the barrier -/

/-- What device `c` holds of its own slot `j` after the signals: the slot, if no total is to land there. -/
def slotKept (c : Dev nD) (j : Fin 7) : sProp 𝕄 := if Bwd c j then iprop(emp) else slotAny c j

/-- The signal of slot `j`, to the device `j + 1` places before: it takes the slot along if that device sends into it. -/
theorem signal_step (c : Dev nD) (j : Fin 7) {n : Dev nD} (hn : n = pv j c) (O : CellTallies nD τ sig Unit)
    {α : Type} {k : PUnit → Prog (TpuEff nD τ sig (Elt F) Λ₀ .tc) α} {Q : α → sProp 𝕄} :
    iprop(records m K ∗ dutyTok ER (barCell (pv j c)) 0 j ∗ slotAny c j ∗ owing c (O + oweB c j)
        ∗ ((slotKept c j ∗ owing c O) -∗ wpc c (k ⟨⟩) Q))
      ⊢ wpc c (.op (.semSignal (n : Thread nD τ) barS 1) k) Q := by
  subst hn
  unfold owing slotKept
  iintro ⟨#HR, Ht, Hs, ⟨%W, HO⟩, HQ⟩
  have hpay : iprop(records m K ∗ slotAny c j) ⊢ iprop((rd m).payload (barCell (pv j c)) 0 j ∗ (if Bwd c j then iprop(emp) else slotAny c j)) := by
    rw [payload_bar]; unfold barPay
    by_cases hB : Bwd c j
    · rw [if_pos hB, if_pos (fwd_pv.mpr hB), nx_pv]
      iintro ⟨#HR, Hs⟩
      isplitl
      · isplitl
        · iexact Hs
        · iapply (reached_at m K (c, some (j, true))); iexact HR
      · iempintro
    · rw [if_neg hB, if_neg fun h => hB (fwd_pv.mp h)]
      iintro ⟨#HR, Hs⟩
      isplitr
      · iempintro
      · iexact Hs
  ihave Hp := hpay $$ [Hs]
  · isplitr
    · iexact HR
    · iexact Hs
  icases Hp with ⟨Hp, Hk⟩
  iapply (Rounds.wp_signal 𝒱₀ ER (rd m) (c : Thread nD τ) none (dst := (pv j c : Thread nD τ)) (κ := K (pv j c, none))
      (d := j) (by rw [duties_bar]; exact Finset.mem_univ _) (amount_bar m (pv j c) j) () O rfl) $$ [HO Ht Hp]
  · isplitr; · iapply (inv_at m K (pv j c, none)); iexact HR
    isplitl [HO]; · iexact HO
    isplitl [Ht]; · iexact Ht
    isplitl [Hp]; · iexact Hp
    iapply (reached_at m K (pv j c, none)); iexact HR
  iintro HO
  iapply HQ
  isplitl [Hk]; · iexact Hk
  iexists W; iexact HO

/-- The wait for seven units: every device has signalled, and with its signal handed over the slot to be sent into. -/
theorem barrier_step (c : Dev nD)
    {α : Type} {k : PUnit → Prog (TpuEff nD τ sig (Elt F) Λ₀ .tc) α} {Q : α → sProp 𝕄} :
    iprop(records m K ∗ cred (tallyAt (barCell c) () 7) ∗ atPos ER (barCell c) 0 ∅ 0 ∗ owing c (O₁ c) ∗ levAts L lv
        ∗ ((bigSep Finset.univ (fun j : Fin 7 => if Fwd c j then slotAny (nx j c) j else iprop(emp)) ∗ semVal (barCell c) 0 ∗ owing c (O₁ c))
            -∗ wpc c (k ⟨⟩) Q))
      ⊢ wpc c (.op (.semWait barS 7) k) Q := by
  unfold owing
  iintro ⟨#HR, Hc, Hat, ⟨%W, HO⟩, #Hlev, HQ⟩
  iapply (Rounds.wp_wait_rest_token 𝒱₀ ER (rd m) (c : Thread nD τ) none (κ := K (c, none))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  ihave Hpay := ((Entails.of_eq (rest_bar m c)).trans (show _ ⊢ bigSep Finset.univ (fun j : Fin 7 => if Fwd c j then slotAny (nx j c) j else iprop(emp)) from
    bigSep_mono fun j _ => by
      unfold barPay
      split
      · refine (show iprop(slotAny (nx j c) j ∗ reached ER (recvCell (nx j c) j) 0) ⊢ slotAny (F := F) (nx j c) j from ?_)
        iintro ⟨H, -⟩; iexact H
      · exact BI.Entails.refl _)) $$ Hpay
  imod (Rounds.cell_close ER (rd m) (Set.mem_univ (K (c, none))) (fun h => h) (R := 0 + 1) (duties_later m (barCell c))) $$ [Hat] with Hz
  · isplitr; · iapply (inv_at m K (c, none)); iexact HR
    iexact Hat
  iapply HQ
  isplitl [Hpay]; · iexact Hpay
  isplitl [Hz]; · iexact Hz
  iexists _; iexact HO

end Cert.KernelIdeal.Scan

end
-- ==== Proof.KernelIdeal.Buffers.lean ====
/-
The scratch buffers of the kernel as the body's proof holds them: the landing buffer is its seven slots together, and
the staging row is eight shares of itself.
-/
module

public import proofs.«01_k».proof.Proof.KernelIdeal.Steps
public import Idealize.ShloMosaic.Lib.WritesUnit
public import Idealize.ShloMosaic.Lib.VecWindow

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The three scratch buffers -/

/-- Device `c`'s carry row holds `f`. -/
def carryPts (c : Dev nD) (f : Vec F S1x1024 .f32) : sProp 𝕄 :=
  (cM).view.loc (c : Thread nD τ) ↦{fullShare} (f : Buf (Elt F) ((cM).view.loc (c : Thread nD τ)))
/-- Device `c`'s staging row holds `f`. -/
def stgPts (c : Dev nD) (f : Vec F S1x1024 .f32) : sProp 𝕄 :=
  (sM).view.loc (c : Thread nD τ) ↦{fullShare} (f : Buf (Elt F) ((sM).view.loc (c : Thread nD τ)))
/-- Device `c`'s landing buffer holds `f`. -/
def landPts (c : Dev nD) (f : Vec F S7x1x1024 .f32) : sProp 𝕄 :=
  (lM).view.loc (c : Thread nD τ) ↦{fullShare} (f : Buf (Elt F) ((lM).view.loc (c : Thread nD τ)))

/-! ## The landing buffer and its slots -/

theorem slot_set (j : Fin 7) : (slotM j).view.set = (slotR j).set :=
  (View.set_reshape _ _).trans (View.set_slice_whole _ _)

theorem slot_disjoint {j j' : Fin 7} (h : j ≠ j') : Disjoint (slotR j).set (slotR j').set := by
  rw [Finset.disjoint_left]
  intro i hi hi'
  have h1 := Rect.mem_set_unit.mp hi 0
  have h2 := Rect.mem_set_unit.mp hi' 0
  refine h (Fin.ext ?_)
  simp only [Matrix.cons_val_zero, S1x1x1024] at h1 h2
  omega

theorem slots_cover : (Finset.univ : Finset (Fin 7)).biUnion (fun j => (slotR j).set) = Finset.univ := by
  refine Finset.eq_univ_iff_forall.mpr fun i => ?_
  refine Finset.mem_biUnion.mpr ⟨⟨(i 0).val, (i 0).isLt⟩, Finset.mem_univ _, ?_⟩
  refine Rect.mem_set_unit.mpr fun a => ?_
  fin_cases a
  · exact ⟨le_refl _, Nat.lt_succ_self _⟩
  · exact ⟨Nat.zero_le _, (i 1).isLt⟩
  · exact ⟨Nat.zero_le _, (i 2).isLt⟩

omit [FloatOps F] in
/-- The landing buffer is its slots. -/
theorem land_slots (c : Dev nD) (f : Vec F S7x1x1024 .f32) :
    landPts (F := F) c f = bigSep Finset.univ fun j : Fin 7 => slotPts (F := F) c j f := by
  have h := pointsTo_biUnion (Ix := Unit) (Name := ℕ) (U := UU) (Lvl := ℕ) (q := fullShare) (Val := Elt F)
    (ℓ := (lM).view.loc (c : Thread nD τ)) (f := f) (Finset.univ : Finset (Fin 7)) (fun j => (slotR j).set)
    fun j _ j' _ h => slot_disjoint h
  rw [slots_cover] at h
  refine h.trans (bigSep_congr fun j _ => ?_)
  unfold slotPts
  rw [slot_set]

omit [FloatOps F] in
theorem land_split (c : Dev nD) : iprop(∃ f, landPts (F := F) c f) ⊢ bigSep Finset.univ fun j : Fin 7 => slotAny (F := F) c j := by
  iintro ⟨%f, H⟩
  ihave H := (Entails.of_eq (land_slots c f)) $$ H
  have h : (bigSep Finset.univ fun j : Fin 7 => slotPts (F := F) c j f) ⊢ bigSep Finset.univ fun j : Fin 7 => slotAny (F := F) c j :=
    bigSep_mono fun j _ => by
      unfold slotAny
      refine (show slotPts (F := F) c j f ⊢ iprop(∃ f, slotPts (F := F) c j f) from ?_)
      iintro H; iexists f; iexact H
  iapply h; iexact H

instance : Nonempty (Vec F S7x1x1024 .f32) := ⟨fun _ => Scalar.ofBits .f32 0⟩

/-- Slots whose contents read `T j` are a landing buffer with contents whose slots read `T j`. -/
theorem land_join (c : Dev nD) (T : Fin 7 → Vec F S1x1024 .f32) :
    (bigSep Finset.univ fun j : Fin 7 => slotHas (F := F) c j (T j))
      ⊢ iprop(∃ f : Vec F S7x1x1024 .f32, ⌜∀ j, (slotM j).view.read (Elt F) f = T j⌝ ∗ landPts (F := F) c f) := by
  unfold slotHas
  refine (BI.bigSep_exists_pi (Finset.univ : Finset (Fin 7)) (Y := fun _ => Vec F S7x1x1024 .f32) (fun j f => iprop(⌜(slotM j).view.read (Elt F) f = T j⌝ ∗ slotPts (F := F) c j f))).trans ?_
  iintro ⟨%fs, H⟩
  have h1 := BI.bigSep_pure_sep (Finset.univ : Finset (Fin 7)) (fun j => (slotM j).view.read (Elt F) (fs j) = T j)
    (fun j => (slotPts (F := F) c j (fs j) : sProp 𝕄))
  ihave H := h1 $$ H
  icases H with ⟨%hfs, H⟩
  have h2 := pointsTo_biUnion_join (Ix := Unit) (Name := ℕ) (U := UU) (Lvl := ℕ) (q := fullShare) (Val := Elt F) (ℓ := (lM).view.loc (c : Thread nD τ)) (Finset.univ : Finset (Fin 7)) (fun j => (slotR j).set)
    (fun j => (fs j : Buf (Elt F) ((lM).view.loc (c : Thread nD τ)))) (fs 0) (fun j _ j' _ h => slot_disjoint h)
  rw [slots_cover] at h2
  have h3 : (bigSep Finset.univ fun j : Fin 7 => slotPts (F := F) c j (fs j))
      ⊢ bigSep Finset.univ fun j : Fin 7 => (((lM).view.loc (c : Thread nD τ)) ↦[(slotR j).set]{fullShare} (fs j : Buf (Elt F) ((lM).view.loc (c : Thread nD τ)))) :=
    Entails.of_eq (bigSep_congr fun j _ => by unfold slotPts; rw [slot_set])
  ihave H := h3 $$ H
  ihave H := h2 $$ H
  icases H with ⟨%g, %hg, H⟩
  iexists g
  isplitr
  · ipureintro
    intro j
    rw [← hfs j (Finset.mem_univ j)]
    exact View.read_congr fun i hi => hg j (Finset.mem_univ j) i (slot_set j ▸ hi)
  · unfold landPts; iexact H

/-! ## The staging row and its shares -/

/-- The staging row holding the total is its eight shares. -/
theorem stg_leaves (c : Dev nD) : stgPts (F := F) c (tot m c) = bigSep Finset.univ fun i : Fin 8 => stgLeaf m c i := by
  have h := ShareLeaves.pointsTo_leaves (Ix := Unit) (Name := ℕ) (U := UU) (Lvl := ℕ) (Val := Elt F)
    (ℓ := (sM).view.loc (c : Thread nD τ)) (sM).view.set (tot m c) 3 fullShare
  unfold stgPts stgLeaf
  refine Eq.trans ?_ h
  rw [show (sM).view.set = Finset.univ from View.set_whole _]

/-! ## Whole-buffer loads and stores -/

theorem hz2 : (![0, 0] : Fin 2 → Nat) = fun _ => 0 := funext fun a => by fin_cases a <;> rfl

omit [FloatOps F] in
theorem read_carry (f : Vec F S1x1024 .f32) :
    (cM).view.readAt (Elt F) (Rect.unit (s := S1x1024) ![0, 0] S1x1024.size inb_S1x1024_S1x1024_0_0).toLoadRect f = f :=
  Memref.readAt_unit_zero (Elt F) cc0_scratch0 hz2 _ f
omit [FloatOps F] in
theorem write_carry (f w : Vec F S1x1024 .f32) :
    ((cM).access (Rect.unit (s := S1x1024) ![0, 0] S1x1024.size inb_S1x1024_S1x1024_0_0) : View sig .tc _ _ _).write (Elt F) f w Finset.univ = w :=
  Memref.write_access_unit_zero_univ (Elt F) cc0_scratch0 hz2 _ f w
omit [FloatOps F] in
theorem write_stg (f w : Vec F S1x1024 .f32) :
    ((sM).access (Rect.unit (s := S1x1024) ![0, 0] S1x1024.size inb_S1x1024_S1x1024_0_0) : View sig .tc _ _ _).write (Elt F) f w Finset.univ = w :=
  Memref.write_access_unit_zero_univ (Elt F) cc0_scratch2 hz2 _ f w

section Ops
variable (c : Dev nD) {α : Type}

/-- A load of the carry row. -/
theorem load_carry (f : Vec F S1x1024 .f32) {Q : α → sProp 𝕄} {hl : (cM).view.LoadsAt (Rect.unit (s := S1x1024) ![0, 0] S1x1024.size inb_S1x1024_S1x1024_0_0).toLoadRect}
    {k : Vec F S1x1024 .f32 → Prog (TpuEff nD τ sig (Elt F) Λ₀ .tc) α} :
    iprop(carryPts c f ∗ (carryPts c f -∗ wpc c (k f) Q))
      ⊢ wpc c (.op (.load cM (Rect.unit (s := S1x1024) ![0, 0] S1x1024.size inb_S1x1024_S1x1024_0_0).toLoadRect hl) k) Q := by
  unfold carryPts
  iintro ⟨H, HQ⟩
  iapply (wp_load 𝒱₀ (c : Thread nD τ) none Set.univ (m := cM) (Finset.subset_univ _)) $$ [H]
  · iexact H
  rw [read_carry]
  iexact HQ
/-- A store of the carry row. -/
theorem store_carry (f w : Vec F S1x1024 .f32) {Q : α → sProp 𝕄} {hx} {hm}
    {k : PUnit → Prog (TpuEff nD τ sig (Elt F) Λ₀ .tc) α} :
    iprop(carryPts c f ∗ (carryPts c w -∗ wpc c (k ⟨⟩) Q))
      ⊢ wpc c (.op (.store cM (Rect.unit (s := S1x1024) ![0, 0] S1x1024.size inb_S1x1024_S1x1024_0_0) w Finset.univ hx hm) k) Q := by
  unfold carryPts
  iintro ⟨H, HQ⟩
  iapply (wp_store 𝒱₀ (c : Thread nD τ) none Set.univ (m := cM) (r := Rect.unit (s := S1x1024) ![0, 0] S1x1024.size inb_S1x1024_S1x1024_0_0)
    (Mk := Finset.univ) (S := Finset.univ) (Finset.subset_univ _)) $$ [H]
  · iexact H
  rw [write_carry]
  iexact HQ
/-- A load of the staging row. -/
theorem load_stg (f : Vec F S1x1024 .f32) {Q : α → sProp 𝕄} {hl : (sM).view.LoadsAt (Rect.unit (s := S1x1024) ![0, 0] S1x1024.size inb_S1x1024_S1x1024_0_0).toLoadRect}
    {k : Vec F S1x1024 .f32 → Prog (TpuEff nD τ sig (Elt F) Λ₀ .tc) α} :
    iprop(stgPts c f ∗ (∀ v, stgPts c f -∗ wpc c (k v) Q))
      ⊢ wpc c (.op (.load sM (Rect.unit (s := S1x1024) ![0, 0] S1x1024.size inb_S1x1024_S1x1024_0_0).toLoadRect hl) k) Q := by
  unfold stgPts
  iintro ⟨H, HQ⟩
  iapply (wp_load 𝒱₀ (c : Thread nD τ) none Set.univ (m := sM) (Finset.subset_univ _)) $$ [H]
  · iexact H
  iapply HQ
/-- A store of the staging row. -/
theorem store_stg (f w : Vec F S1x1024 .f32) {Q : α → sProp 𝕄} {hx} {hm}
    {k : PUnit → Prog (TpuEff nD τ sig (Elt F) Λ₀ .tc) α} :
    iprop(stgPts c f ∗ (stgPts c w -∗ wpc c (k ⟨⟩) Q))
      ⊢ wpc c (.op (.store sM (Rect.unit (s := S1x1024) ![0, 0] S1x1024.size inb_S1x1024_S1x1024_0_0) w Finset.univ hx hm) k) Q := by
  unfold stgPts
  iintro ⟨H, HQ⟩
  iapply (wp_store 𝒱₀ (c : Thread nD τ) none Set.univ (m := sM) (r := Rect.unit (s := S1x1024) ![0, 0] S1x1024.size inb_S1x1024_S1x1024_0_0)
    (Mk := Finset.univ) (S := Finset.univ) (Finset.subset_univ _)) $$ [H]
  · iexact H
  rw [write_stg]
  iexact HQ

end Ops

omit [FloatOps F] in
/-- A load of slot `j` of the landing buffer gives what the slot holds, up to the leading axis. -/
theorem read_slot (j : Fin 7) (f : Vec F S7x1x1024 .f32) (inb : ∀ a, (![j.val, 0, 0] : Fin 3 → ℕ) a + S1x1x1024.size a ≤ S7x1x1024.size a) :
    shapeCast S1x1024 ((lM).view.readAt (Elt F) (Rect.unit (s := S7x1x1024) ![j.val, 0, 0] S1x1x1024.size inb).toLoadRect f) shapeCasts_S1x1x1024_S1x1024
      = (slotM j).view.read (Elt F) f := rfl

/-! ## The staging buffers of the two windows -/

section Windows
variable (c : Dev nD) {α : Type} {s : Shape} {e : EltTy} (M : Memref sig .tc .vmem s e)

/-- Device `c` owns the memref `M`, which reads `X`. -/
abbrev holds (X : Vec F s e) : sProp 𝕄 := owns (c : Thread nD τ) M fullShare X

/-- A load of the whole memref. -/
theorem load_all (X : Vec F s e) {off : Fin s.rank → ℕ} {inb} {hl} {Q : α → sProp 𝕄} {k : Vec F s e → Prog (TpuEff nD τ sig (Elt F) Λ₀ .tc) α} :
    iprop(holds c M X ∗ (holds c M X -∗ wpc c (k X) Q))
      ⊢ wpc c (.op (.load M (Rect.unit (s := s) off s.size inb).toLoadRect hl) k) Q := by
  unfold holds owns
  iintro ⟨⟨%f, %hf, H⟩, HQ⟩
  iapply (wp_load 𝒱₀ (c : Thread nD τ) none Set.univ (m := M) (M.view.setOn_subset_set _)) $$ [H]
  · iexact H
  rw [View.readAt_full, hf]
  iintro H
  iapply HQ
  iexists f
  isplitr; · ipureintro; exact hf
  iexact H
/-- A load whose result isn't used. -/
theorem load_some (X : Vec F s e) {r : LoadRect s} {hl} {Q : α → sProp 𝕄} {k : (r.shape.Idx → Elt F e) → Prog (TpuEff nD τ sig (Elt F) Λ₀ .tc) α} :
    iprop(holds c M X ∗ (∀ v, holds c M X -∗ wpc c (k v) Q)) ⊢ wpc c (.op (.load M r hl) k) Q := by
  unfold holds owns
  iintro ⟨⟨%f, %hf, H⟩, HQ⟩
  iapply (wp_load 𝒱₀ (c : Thread nD τ) none Set.univ (m := M) (M.view.setOn_subset_set _)) $$ [H]
  · iexact H
  iintro H
  iapply HQ
  iexists f
  isplitr; · ipureintro; exact hf
  iexact H
/-- A store to a rectangle: the memref reads what was stored there and what it read before elsewhere. -/
theorem store_rect (X : Vec F s e) (r : Rect s) (w : r.shape.Idx → Elt F e) {hx} {hm} {Q : α → sProp 𝕄}
    {k : PUnit → Prog (TpuEff nD τ sig (Elt F) Λ₀ .tc) α} :
    iprop(holds c M X ∗ (∀ Y : Vec F s e, ⌜(∀ x, Y (r.emb x) = w x) ∧ ∀ y, y ∉ r.set → Y y = X y⌝ -∗ holds c M Y -∗ wpc c (k ⟨⟩) Q))
      ⊢ wpc c (.op (.store M r w Finset.univ hx hm) k) Q := by
  unfold holds owns
  iintro ⟨⟨%f, %hf, H⟩, HQ⟩
  iapply (wp_store 𝒱₀ (c : Thread nD τ) none Set.univ (m := M) (r := r) (Mk := Finset.univ)
    (S := M.view.set) ((View.setOn_subset_set _ _).trans (View.set_slice_subset M.view r))) $$ [H]
  · iexact H
  iintro H
  ihave HQ := HQ $$ %(M.view.read (Elt F) ((M.view.slice r).write (Elt F) f w Finset.univ))
  iapply HQ
  · ipureintro
    refine ⟨fun x => View.read_slice_write_emb r f w (Finset.mem_univ x), fun y hy => ?_⟩
    rw [View.read_slice_write_of_not_mem r f w Finset.univ (by rwa [Rect.map_emb_univ]), hf]
  · iexists _
    isplitr; · ipureintro; rfl
    iexact H
/-- A store to the whole memref. -/
theorem store_all (X : Vec F s e) {off : Fin s.rank → ℕ} {inb} (w : Vec F s e) {hx} {hm} {Q : α → sProp 𝕄}
    {k : PUnit → Prog (TpuEff nD τ sig (Elt F) Λ₀ .tc) α} :
    iprop(holds c M X ∗ (holds c M w -∗ wpc c (k ⟨⟩) Q))
      ⊢ wpc c (.op (.store M (Rect.unit (s := s) off s.size inb) w Finset.univ hx hm) k) Q := by
  iintro ⟨H, HQ⟩
  iapply (store_rect c M X (Rect.unit (s := s) off s.size inb) w)
  isplitl [H]; · iexact H
  iintro %Y %hY H
  have e : Y = w := funext fun y => by
    have h := hY.1 y
    rwa [show (Rect.unit (s := s) off s.size inb).emb y = y from funext fun a => Fin.ext (by
      show off a + 1 * (y a).val = (y a).val
      have := inb a; omega)] at h
  rw [e]
  iapply HQ; iexact H

/-- A load of a part of the landing buffer. -/
theorem load_land (f : Vec F S7x1x1024 .f32) {r : LoadRect S7x1x1024} {hl} {Q : α → sProp 𝕄}
    {k : (r.shape.Idx → Elt F .f32) → Prog (TpuEff nD τ sig (Elt F) Λ₀ .tc) α} :
    iprop(landPts c f ∗ (landPts c f -∗ wpc c (k ((lM).view.readAt (Elt F) r f)) Q)) ⊢ wpc c (.op (.load lM r hl) k) Q := by
  unfold landPts
  iintro ⟨H, HQ⟩
  iapply (wp_load 𝒱₀ (c : Thread nD τ) none Set.univ (m := lM) (Finset.subset_univ _)) $$ [H]
  · iexact H
  iexact HQ

end Windows

end Cert.KernelIdeal.Scan

end
-- ==== Proof.KernelIdeal.Parts.lean ====
/-
The kernel's communication at the last grid point, part by part as the program is printed: the total is staged and sent
(parts 5 and 6), the landings are awaited (parts 6 and 7), the product over the earlier devices' totals is applied
(parts 4 and 7), and the transfers' sources are awaited (parts 7 and 8).
-/
module

public import proofs.«01_k».proof.Proof.KernelIdeal.Buffers

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The device's number as the body computes it. -/
abbrev vw : BitVec 32 := Scalar.remsi (Scalar.divsi (Dev.word c) 1#32) 8#32

theorem seven {M : Type _} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem eight {M : Type _} [URA M] (Φ : Fin 8 → sProp M) :
    bigSep Finset.univ Φ = iprop(Φ (Fin.castSucc 0) ∗ Φ (Fin.castSucc 1) ∗ Φ (Fin.castSucc 2) ∗ Φ (Fin.castSucc 3) ∗ Φ (Fin.castSucc 4)
      ∗ Φ (Fin.castSucc 5) ∗ Φ (Fin.castSucc 6) ∗ Φ 7) :=
  bigSep_univ_eq_bigSepL [0, 1, 2, 3, 4, 5, 6, 7] (by decide) (by decide) Φ

variable (i : grid0.Coords) (a1 : Memref sig .tc .vmem S512x1024 .bf16) (h1 : a1.IsWhole) (a2 : Memref sig .tc .vmem S8192x1024 .bf16) (h2 : a2.IsWhole)
  (h3 : (cM).IsWhole) (h4 : (lM).IsWhole) (h5 : (sM).IsWhole)

omit [FloatOps F] in
theorem dev_nx {c : Dev nD} {j : Fin 7} {n : ℕ} (hF : Fwd c j) (e : n = c.val + (j.val + 1)) (hn : n < nD) : (⟨n, hn⟩ : Dev nD) = nx j c :=
  Fin.ext (by
    show n = (c.val + j.val + 1) % 8
    rw [Nat.mod_eq_of_lt hF, e]; rfl)

theorem fwd0 : k0_cond3 c = 1#1 ↔ Fwd c 0 := by revert c; decide
theorem fwd1 : k0_cond4 c = 1#1 ↔ Fwd c 1 := by revert c; decide
theorem fwd2 : k0_cond5 c = 1#1 ↔ Fwd c 2 := by revert c; decide
theorem fwd3 : k0_cond6 c = 1#1 ↔ Fwd c 3 := by revert c; decide
theorem fwd4 : k0_cond7 c = 1#1 ↔ Fwd c 4 := by revert c; decide
theorem fwd5 : k0_cond8 c = 1#1 ↔ Fwd c 5 := by revert c; decide
theorem fwd6 : k0_cond9 c = 1#1 ↔ Fwd c 6 := by revert c; decide

/-- The guards of the waits, in plain words. -/
theorem bwd0 : Scalar.cmpi .ne (Scalar.extui (Scalar.cmpi .sge (vw c) 1#32)) 0#32 = 1#1 ↔ Bwd c 0 := by revert c; decide
theorem bwd1 : Scalar.cmpi .ne (Scalar.extui (Scalar.cmpi .sge (vw c) 2#32)) 0#32 = 1#1 ↔ Bwd c 1 := by revert c; decide
theorem bwd2 : Scalar.cmpi .ne (Scalar.extui (Scalar.cmpi .sge (vw c) 3#32)) 0#32 = 1#1 ↔ Bwd c 2 := by revert c; decide
theorem bwd3 : Scalar.cmpi .ne (Scalar.extui (Scalar.cmpi .sge (vw c) 4#32)) 0#32 = 1#1 ↔ Bwd c 3 := by revert c; decide
theorem bwd4 : Scalar.cmpi .ne (Scalar.extui (Scalar.cmpi .sge (vw c) 5#32)) 0#32 = 1#1 ↔ Bwd c 4 := by revert c; decide
theorem bwd5 : Scalar.cmpi .ne (Scalar.extui (Scalar.cmpi .sge (vw c) 6#32)) 0#32 = 1#1 ↔ Bwd c 5 := by revert c; decide
theorem bwd6 : Scalar.cmpi .ne (Scalar.extui (Scalar.cmpi .sge (vw c) 7#32)) 0#32 = 1#1 ↔ Bwd c 6 := by revert c; decide
theorem out0 : Scalar.cmpi .ne (Scalar.extui (Scalar.cmpi .slt (Scalar.addi (vw c) 1#32) 8#32)) 0#32 = 1#1 ↔ Fwd c 0 := by revert c; decide
theorem out1 : Scalar.cmpi .ne (Scalar.extui (Scalar.cmpi .slt (Scalar.addi (vw c) 2#32) 8#32)) 0#32 = 1#1 ↔ Fwd c 1 := by revert c; decide
theorem out2 : Scalar.cmpi .ne (Scalar.extui (Scalar.cmpi .slt (Scalar.addi (vw c) 3#32) 8#32)) 0#32 = 1#1 ↔ Fwd c 2 := by revert c; decide
theorem out3 : Scalar.cmpi .ne (Scalar.extui (Scalar.cmpi .slt (Scalar.addi (vw c) 4#32) 8#32)) 0#32 = 1#1 ↔ Fwd c 3 := by revert c; decide
theorem out4 : Scalar.cmpi .ne (Scalar.extui (Scalar.cmpi .slt (Scalar.addi (vw c) 5#32) 8#32)) 0#32 = 1#1 ↔ Fwd c 4 := by revert c; decide
theorem out5 : Scalar.cmpi .ne (Scalar.extui (Scalar.cmpi .slt (Scalar.addi (vw c) 6#32) 8#32)) 0#32 = 1#1 ↔ Fwd c 5 := by revert c; decide
theorem out6 : Scalar.cmpi .ne (Scalar.extui (Scalar.cmpi .slt (Scalar.addi (vw c) 7#32) 8#32)) 0#32 = 1#1 ↔ Fwd c 6 := by revert c; decide
theorem later : Scalar.cmpi .ne (Scalar.extui (Scalar.cmpi .sgt (vw c) 0#32)) 0#32 = 1#1 ↔ 0 < c.val := by revert c; decide

/-! The signals' devices. -/
theorem sig1 {h : k0_dev1 c < nD} : (⟨k0_dev1 c, h⟩ : Dev nD) = pv 6 c := Fin.ext (show k0_dev1 c = (pv 6 c).val by clear h; revert c; decide)
theorem sig2 {h : k0_dev2 c < nD} : (⟨k0_dev2 c, h⟩ : Dev nD) = pv 5 c := Fin.ext (show k0_dev2 c = (pv 5 c).val by clear h; revert c; decide)
theorem sig3 {h : k0_dev3 c < nD} : (⟨k0_dev3 c, h⟩ : Dev nD) = pv 4 c := Fin.ext (show k0_dev3 c = (pv 4 c).val by clear h; revert c; decide)
theorem sig4 {h : k0_dev4 c < nD} : (⟨k0_dev4 c, h⟩ : Dev nD) = pv 3 c := Fin.ext (show k0_dev4 c = (pv 3 c).val by clear h; revert c; decide)
theorem sig5 {h : k0_dev5 c < nD} : (⟨k0_dev5 c, h⟩ : Dev nD) = pv 2 c := Fin.ext (show k0_dev5 c = (pv 2 c).val by clear h; revert c; decide)
theorem sig6 {h : k0_dev6 c < nD} : (⟨k0_dev6 c, h⟩ : Dev nD) = pv 1 c := Fin.ext (show k0_dev6 c = (pv 1 c).val by clear h; revert c; decide)
theorem sig7 {h : k0_dev7 c < nD} : (⟨k0_dev7 c, h⟩ : Dev nD) = pv 0 c := Fin.ext (show k0_dev7 c = (pv 0 c).val by clear h; revert c; decide)

/-- A sequence of two programs. -/
theorem wpc_bind {α β : Type} (p : Prog (TpuEff nD τ sig (Elt F) Λ₀ .tc) α) (k : α → Prog (TpuEff nD τ sig (Elt F) Λ₀ .tc) β) {Q : β → sProp 𝕄} :
    wpc c p (fun x => wpc c (k x) Q) ⊢ wpc c (p >>= k) Q := Entails.of_eq (wp_bind ..).symm

/-! ## The guarded steps over the slots and the semaphores as the program slices them -/

theorem inb_one (k : ℕ) (j : Fin 7) (hk : k = j.val) : ∀ a, (![k] : Fin 1 → ℕ) a + S1.size a ≤ S7.size a := by subst hk; revert j; decide
/-- The semaphore numbered `k` of an array of seven. -/
abbrev oneOf (A : DmaSems sig S7) (k : ℕ) (h : ∀ a, (![k] : Fin 1 → ℕ) a + S1.size a ≤ S7.size a) : DmaSem sig :=
  ((A.slice (Rect.unit (s := S7) ![k] S1.size h)).squeeze S_ squeezes_S1_S_).sem
/-- The slot numbered `k`. -/
abbrev slotAt (k : ℕ) (h : ∀ a, (![k, 0, 0] : Fin 3 → ℕ) a + S1x1x1024.size a ≤ S7x1x1024.size a) : Memref sig .tc .vmem S1x1024 .f32 :=
  (lM.slice (Rect.unit (s := S7x1x1024) ![k, 0, 0] S1x1x1024.size h) (fun _ => rfl)).squeeze S1x1024 squeezes_S1x1x1024_S1x1024

theorem oneOf_send (j : Fin 7) (k : ℕ) (hk : k = j.val) (h) : oneOf cc0_scratch3 k h = sendS j := by
  subst hk
  match j with
  | 0 => exact (rfl : oneOf cc0_scratch3 0 inb_S7_S1_0 = sendS 0)
  | 1 => exact (rfl : oneOf cc0_scratch3 1 inb_S7_S1_1 = sendS 1)
  | 2 => exact (rfl : oneOf cc0_scratch3 2 inb_S7_S1_2 = sendS 2)
  | 3 => exact (rfl : oneOf cc0_scratch3 3 inb_S7_S1_3 = sendS 3)
  | 4 => exact (rfl : oneOf cc0_scratch3 4 inb_S7_S1_4 = sendS 4)
  | 5 => exact (rfl : oneOf cc0_scratch3 5 inb_S7_S1_5 = sendS 5)
  | 6 => exact (rfl : oneOf cc0_scratch3 6 inb_S7_S1_6 = sendS 6)
theorem oneOf_recv (j : Fin 7) (k : ℕ) (hk : k = j.val) (h) : oneOf cc0_scratch4 k h = recvS j := by
  subst hk
  match j with
  | 0 => exact (rfl : oneOf cc0_scratch4 0 inb_S7_S1_0 = recvS 0)
  | 1 => exact (rfl : oneOf cc0_scratch4 1 inb_S7_S1_1 = recvS 1)
  | 2 => exact (rfl : oneOf cc0_scratch4 2 inb_S7_S1_2 = recvS 2)
  | 3 => exact (rfl : oneOf cc0_scratch4 3 inb_S7_S1_3 = recvS 3)
  | 4 => exact (rfl : oneOf cc0_scratch4 4 inb_S7_S1_4 = recvS 4)
  | 5 => exact (rfl : oneOf cc0_scratch4 5 inb_S7_S1_5 = recvS 5)
  | 6 => exact (rfl : oneOf cc0_scratch4 6 inb_S7_S1_6 = recvS 6)
theorem slotAt_scratch (k : ℕ) (h) : (slotAt k h).view.ref.isScScratch = false := rfl
theorem slotAt_words (k : ℕ) (h) : (slotAt k h).view.WordExact := (View.wordExact_bits rfl).reshape _ _
theorem slotAt_eq (j : Fin 7) (k : ℕ) (hk : k = j.val) (h) : slotAt k h = slotM j := by subst hk; rfl

attribute [local irreducible] k0_cond1 k0_cond2 k0_cond3 k0_cond4 k0_cond5 k0_cond6 k0_cond7 k0_cond8 k0_cond9 k0_dev1 k0_dev2 k0_dev3 k0_dev4 k0_dev5 k0_dev6 k0_dev7 k0_dev8 k0_dev9 k0_dev10 k0_dev11 k0_dev12 k0_dev13 k0_dev14 Scalar.cmpi Scalar.extui Scalar.remsi Scalar.divsi Scalar.addi

theorem send_at (j : Fin 7) (k : ℕ) (hk : k = j.val) {C : Prop} [Decidable C] (hC : C ↔ Fwd c j) (n : C → Dev nD) (hn : ∀ h, n h = nx j c)
    {O : CellTallies nD τ sig Unit} {e1 e2 e3} {hx : (sM).view.WordExact}
    {hty : ∀ h, DmaTarget.Typed .vmem (.dma (oneOf cc0_scratch4 k e3)) (.remote (Dev.tc (n h) : Thread nD τ) (slotAt k e1) (.dma (oneOf cc0_scratch3 k e2)) (slotAt_scratch k e1))}
    {α : Type} {R : Prog (TpuEff nD τ sig (Elt F) Λ₀ .tc) α} {Q : α → sProp 𝕄} :
    iprop(records m K ∗ sendPre c j ∗ stgLeaf m c j.castSucc ∗ owing c (O + oweR c j) ∗ ((sendMid m c j ∗ owing c O) -∗ wpc c R Q))
      ⊢ wpc c (if h : C then .op (.enqueueDma sM (.remote (Dev.tc (n h) : Thread nD τ) (slotAt k e1) (.dma (oneOf cc0_scratch3 k e2)) (slotAt_scratch k e1))
          (.dma (oneOf cc0_scratch4 k e3)) hx (slotAt_words k e1) (hty h)) fun _ => R else R) Q :=
  send_step m K c j hC n hn O (slotAt_eq j k hk e1) (oneOf_send j k hk e2) (oneOf_recv j k hk e3)

theorem recv_at (j : Fin 7) (k : ℕ) (hk : k = j.val) {C : Prop} [Decidable C] (hC : C ↔ Bwd c j)
    {e1 e2} {hx : (sM).view.WordExact}
    {α : Type} {R : Prog (TpuEff nD τ sig (Elt F) Λ₀ .tc) α} {Q : α → sProp 𝕄} :
    iprop(records m K ∗ recvPre c j ∗ owing c 0 ∗ ((recvPost m c j ∗ owing c 0) -∗ wpc c R Q))
      ⊢ wpc c (if h : C then .op (.waitDma2 (oneOf cc0_scratch4 k e2) sM (slotAt k e1) hx (slotAt_words k e1)) fun _ => R else R) Q :=
  recv_step m K c j hC (slotAt_eq j k hk e1) (oneOf_recv j k hk e2)

theorem back_at (j : Fin 7) (k : ℕ) (hk : k = j.val) {C : Prop} [Decidable C] (hC : C ↔ Fwd c j)
    {e1 e2} {hx : (sM).view.WordExact}
    {α : Type} {R : Prog (TpuEff nD τ sig (Elt F) Λ₀ .tc) α} {Q : α → sProp 𝕄} :
    iprop(records m K ∗ backPre m c j ∗ owing c 0 ∗ ((backPost m c j ∗ owing c 0) -∗ wpc c R Q))
      ⊢ wpc c (if h : C then .op (.waitDma2 (oneOf cc0_scratch3 k e2) (slotAt k e1) sM (slotAt_words k e1) hx) fun _ => R else R) Q :=
  back_step m K c j hC (oneOf_send j k hk e2)

set_option maxHeartbeats 1600000 in
/-- Part 5: the total is staged, and the first three transfers are started. -/
theorem wp_part5 (hi : k0_cond2 i = 1#1) {Q : (Σ' (v63 : BitVec 32) (v68 : BitVec 32) (v73 : BitVec 32), BitVec 32) → sProp 𝕄} :
    iprop(records m K ∗ carryPts c (carryAt m c 16) ∗ (∃ f, stgPts c f) ∗ (sendPre c 0 ∗ sendPre c 1 ∗ sendPre c 2) ∗ owing c (O₁ c)
        ∗ (∀ v, (carryPts c (carryAt m c 16) ∗ (sendMid m c 0 ∗ sendMid m c 1 ∗ sendMid m c 2)
            ∗ (stgLeaf m c (Fin.castSucc 3) ∗ stgLeaf m c (Fin.castSucc 4) ∗ stgLeaf m c (Fin.castSucc 5) ∗ stgLeaf m c (Fin.castSucc 6) ∗ stgLeaf m c 7)
            ∗ owing c (0 + oweR c 6 + oweR c 5 + oweR c 4 + oweR c 3)) -∗ Q v))
      ⊢ wpc c (k0_part5 i a1 h1 a2 h2 cM h3 lM h4 sM h5 cc0_scratch3 cc0_scratch4 c (vw c) hi) Q := by
  rw [k0_part5_eq_skeleton]; unfold k0_part5_skel
  simp (config := {zeta := false}) only [Prog.lift, Prog.bind_op, Prog.bind_ret, Prog.pure_eq_ret]
  iintro ⟨#HR, Hc, ⟨%f, Hs⟩, ⟨H0, H1, H2⟩, HO, HQ⟩
  iapply (load_carry c _)
  isplitl [Hc]; · iexact Hc
  iintro Hc
  iapply (load_stg c _)
  isplitl [Hs]; · iexact Hs
  iintro %v Hs
  iapply (store_stg c _ _)
  isplitl [Hs]; · iexact Hs
  iintro Hs
  have hs : stgPts c (k0_pay6 (carryAt m c 16)) = _ := (stg_leaves m c).trans (eight _)
  ihave Hs := (Entails.of_eq hs) $$ Hs
  icases Hs with ⟨L0, L1, L2, L3, L4, L5, L6, L7⟩
  unfold O₁
  extract_lets +onlyGivenNames -underBinder v63 j1
  simp only []
  iapply (send_at m K c 0 0 rfl (fwd0 c) (fun h => ⟨k0_dev8 c, k0_dev8_lt i c hi h⟩) (fun h => dev_nx ((fwd0 c).mp h) (k0_dev8_eq c) _))
  isplitr; · iexact HR
  isplitl [H0]; · iexact H0
  isplitl [L0]; · iexact L0
  isplitl [HO]; · iexact HO
  iintro ⟨H0, HO⟩
  simp (config := {zeta := false}) only [j1]
  extract_lets +onlyGivenNames -underBinder v68 j2
  simp only []
  iapply (send_at m K c 1 1 rfl (fwd1 c) (fun h => ⟨k0_dev9 c, k0_dev9_lt i c hi h⟩) (fun h => dev_nx ((fwd1 c).mp h) (k0_dev9_eq c) _))
  isplitr; · iexact HR
  isplitl [H1]; · iexact H1
  isplitl [L1]; · iexact L1
  isplitl [HO]; · iexact HO
  iintro ⟨H1, HO⟩
  simp (config := {zeta := false}) only [j2]
  extract_lets +onlyGivenNames -underBinder v73 j3
  simp only []
  iapply (send_at m K c 2 2 rfl (fwd2 c) (fun h => ⟨k0_dev10 c, k0_dev10_lt i c hi h⟩) (fun h => dev_nx ((fwd2 c).mp h) (k0_dev10_eq c) _))
  isplitr; · iexact HR
  isplitl [H2]; · iexact H2
  isplitl [L2]; · iexact L2
  isplitl [HO]; · iexact HO
  iintro ⟨H2, HO⟩
  simp only [j3]
  iapply (wpc_ret c _ _)
  iapply HQ
  isplitl [Hc]; · iexact Hc
  isplitl [H0 H1 H2]
  · isplitl [H0]; · iexact H0
    isplitl [H1]; · iexact H1
    iexact H2
  isplitl [L3 L4 L5 L6 L7]
  · isplitl [L3]; · iexact L3
    isplitl [L4]; · iexact L4
    isplitl [L5]; · iexact L5
    isplitl [L6]; · iexact L6
    iexact L7
  iexact HO

set_option maxHeartbeats 1600000 in
/-- Part 6: the other four transfers are started, and the first two landings awaited. -/
theorem wp_part6 (hi : k0_cond2 i = 1#1) {u1 u2 u3 : BitVec 32} {Q : (Σ' (v83 : BitVec 32) (v88 : BitVec 32) (v93 : BitVec 32), BitVec 1) → sProp 𝕄} :
    iprop(records m K ∗ (sendPre c 3 ∗ sendPre c 4 ∗ sendPre c 5 ∗ sendPre c 6)
        ∗ (stgLeaf m c (Fin.castSucc 3) ∗ stgLeaf m c (Fin.castSucc 4) ∗ stgLeaf m c (Fin.castSucc 5) ∗ stgLeaf m c (Fin.castSucc 6))
        ∗ (recvPre c 0 ∗ recvPre c 1) ∗ owing c (0 + oweR c 6 + oweR c 5 + oweR c 4 + oweR c 3)
        ∗ (∀ a b d, ((sendMid m c 3 ∗ sendMid m c 4 ∗ sendMid m c 5 ∗ sendMid m c 6) ∗ (recvPost m c 0 ∗ recvPost m c 1) ∗ owing c 0)
            -∗ Q ⟨a, b, d, Scalar.cmpi .sge (vw c) 3#32⟩))
      ⊢ wpc c (k0_part6 i a1 h1 a2 h2 cM h3 lM h4 sM h5 cc0_scratch3 cc0_scratch4 c (vw c) hi u1 u2 u3) Q := by
  rw [k0_part6_eq_skeleton]; unfold k0_part6_skel
  simp (config := {zeta := false}) only [Prog.lift, Prog.bind_op, Prog.bind_ret, Prog.pure_eq_ret]
  iintro ⟨#HR, ⟨H3, H4, H5, H6⟩, ⟨L3, L4, L5, L6⟩, ⟨V0, V1⟩, HO, HQ⟩
  extract_lets +onlyGivenNames -underBinder j1
  simp only []
  iapply (send_at m K c 3 3 rfl (fwd3 c) (fun h => ⟨k0_dev11 c, k0_dev11_lt i c hi h⟩) (fun h => dev_nx ((fwd3 c).mp h) (k0_dev11_eq c) _))
  isplitr; · iexact HR
  isplitl [H3]; · iexact H3
  isplitl [L3]; · iexact L3
  isplitl [HO]; · iexact HO
  iintro ⟨H3, HO⟩
  simp (config := {zeta := false}) only [j1]
  extract_lets +onlyGivenNames -underBinder v83 j2
  simp only []
  iapply (send_at m K c 4 4 rfl (fwd4 c) (fun h => ⟨k0_dev12 c, k0_dev12_lt i c hi h⟩) (fun h => dev_nx ((fwd4 c).mp h) (k0_dev12_eq c) _))
  isplitr; · iexact HR
  isplitl [H4]; · iexact H4
  isplitl [L4]; · iexact L4
  isplitl [HO]; · iexact HO
  iintro ⟨H4, HO⟩
  simp (config := {zeta := false}) only [j2]
  extract_lets +onlyGivenNames -underBinder v88 j3
  simp only []
  iapply (send_at m K c 5 5 rfl (fwd5 c) (fun h => ⟨k0_dev13 c, k0_dev13_lt i c hi h⟩) (fun h => dev_nx ((fwd5 c).mp h) (k0_dev13_eq c) _))
  isplitr; · iexact HR
  isplitl [H5]; · iexact H5
  isplitl [L5]; · iexact L5
  isplitl [HO]; · iexact HO
  iintro ⟨H5, HO⟩
  simp (config := {zeta := false}) only [j3]
  extract_lets +onlyGivenNames -underBinder v93 j4
  simp only []
  iapply (send_at m K c 6 6 rfl (fwd6 c) (fun h => ⟨k0_dev14 c, k0_dev14_lt i c hi h⟩) (fun h => dev_nx ((fwd6 c).mp h) (k0_dev14_eq c) _))
  isplitr; · iexact HR
  isplitl [H6]; · iexact H6
  isplitl [L6]; · iexact L6
  isplitl [HO]; · iexact HO
  iintro ⟨H6, HO⟩
  simp (config := {zeta := false}) only [j4]
  extract_lets +onlyGivenNames -underBinder w98 w99 w100 j5
  simp only [w98, w99, w100]
  iapply (recv_at m K c 0 0 rfl (bwd0 c))
  isplitr; · iexact HR
  isplitl [V0]; · iexact V0
  isplitl [HO]; · iexact HO
  iintro ⟨V0, HO⟩
  simp (config := {zeta := false}) only [j5]
  extract_lets +onlyGivenNames -underBinder w101 w102 w103 j6
  simp only [w101, w102, w103]
  iapply (recv_at m K c 1 1 rfl (bwd1 c))
  isplitr; · iexact HR
  isplitl [V1]; · iexact V1
  isplitl [HO]; · iexact HO
  iintro ⟨V1, HO⟩
  simp only [j6]
  iapply (wpc_ret c _ _)
  iapply HQ
  isplitl [H3 H4 H5 H6]
  · isplitl [H3]; · iexact H3
    isplitl [H4]; · iexact H4
    isplitl [H5]; · iexact H5
    iexact H6
  isplitl [V0 V1]
  · isplitl [V0]; · iexact V0
    iexact V1
  iexact HO

/-- What a load of slot `j` reads of the landing buffer's contents `f`. -/
def slotLd (f : Vec F S7x1x1024 .f32) (j : Fin 7) : Vec F S1x1x1024 .f32 := (lM).view.readAt (Elt F) (slotR j).toLoadRect f

/-- The load of the slot numbered `k`. -/
theorem load_slot (f : Vec F S7x1x1024 .f32) (j : Fin 7) (k : ℕ) (hk : k = j.val) {e : ∀ a, (![k, 0, 0] : Fin 3 → ℕ) a + S1x1x1024.size a ≤ S7x1x1024.size a} {hl}
    {α : Type} {Q : α → sProp 𝕄} {R : (S1x1x1024.Idx → Elt F .f32) → Prog (TpuEff nD τ sig (Elt F) Λ₀ .tc) α} :
    iprop(landPts c f ∗ (landPts c f -∗ wpc c (R (slotLd f j)) Q))
      ⊢ wpc c (.op (.load lM (Rect.unit (s := S7x1x1024) ![k, 0, 0] S1x1x1024.size e).toLoadRect hl) R) Q := by subst hk; exact load_land c f

/-- Part 4: the loads of the first five slots. -/
theorem wp_part4 (f : Vec F S7x1x1024 .f32) {Q : (Σ' (v180 : FVec F S1x1024 .f32), BitVec 1) → sProp 𝕄} :
    iprop(landPts c f ∗ (landPts c f -∗ Q ⟨k0_pay5 (vw c) (slotLd f 0) (slotLd f 1) (slotLd f 2) (slotLd f 3) (slotLd f 4), Scalar.cmpi .sge (vw c) 6#32⟩))
      ⊢ wpc c (k0_part4 i a1 h1 a2 h2 cM h3 lM h4 sM h5 cc0_scratch3 cc0_scratch4 (vw c)) Q := by
  rw [k0_part4_eq_skeleton]; unfold k0_part4_skel
  simp (config := {zeta := false}) only [Prog.lift, Prog.bind_op, Prog.bind_ret, Prog.pure_eq_ret]
  iintro ⟨Hl, HQ⟩
  iapply (load_slot c f 0 0 rfl)
  isplitl [Hl]; · iexact Hl
  iintro Hl
  iapply (load_slot c f 1 1 rfl)
  isplitl [Hl]; · iexact Hl
  iintro Hl
  iapply (load_slot c f 2 2 rfl)
  isplitl [Hl]; · iexact Hl
  iintro Hl
  iapply (load_slot c f 3 3 rfl)
  isplitl [Hl]; · iexact Hl
  iintro Hl
  iapply (load_slot c f 4 4 rfl)
  isplitl [Hl]; · iexact Hl
  iintro Hl
  iapply (wpc_ret c _ _)
  iapply HQ
  iexact Hl

/-- What the last grid point makes of the device's own result `X`: on device 0 it stays; on a later device it is
    multiplied by the product of the totals that landed. -/
def Closed (X Y : Vec F S8192x1024 .bf16) : Prop :=
  (¬ 0 < c.val → Y = X) ∧ (0 < c.val → ∃ s : Fin 7 → Vec F S1x1x1024 .f32,
    (∀ j, Bwd c j → shapeCast S1x1024 (s j) shapeCasts_S1x1x1024_S1x1024 = tot m (pv j c))
    ∧ Y = k0_pay7 (vw c) (k0_pay5 (vw c) (s 0) (s 1) (s 2) (s 3) (s 4)) (Scalar.cmpi .sge (vw c) 6#32) (s 5) (s 6) X)

set_option maxHeartbeats 3200000 in
/-- Part 7: the other five landings, the product with the totals that landed, and the first transfer's source. -/
theorem wp_part7 (X : Vec F S8192x1024 .bf16) {u1 u2 u3 u4 u5 : BitVec 32} {Q : PUnit → sProp 𝕄} :
    iprop(records m K ∗ (recvPost m c 0 ∗ recvPost m c 1) ∗ (recvPre c 2 ∗ recvPre c 3 ∗ recvPre c 4 ∗ recvPre c 5 ∗ recvPre c 6) ∗ backPre m c 0
        ∗ holds c a2 X ∗ owing c 0
        ∗ (((∃ f, landPts c f) ∗ (semVal (recvCell c 0) 0 ∗ semVal (recvCell c 1) 0 ∗ semVal (recvCell c 2) 0 ∗ semVal (recvCell c 3) 0
              ∗ semVal (recvCell c 4) 0 ∗ semVal (recvCell c 5) 0 ∗ semVal (recvCell c 6) 0)
            ∗ backPost m c 0 ∗ (∃ Y, ⌜Closed m c X Y⌝ ∗ holds c a2 Y) ∗ owing c 0) -∗ Q ⟨⟩))
      ⊢ wpc c (k0_part7 i a1 h1 a2 h2 cM h3 lM h4 sM h5 cc0_scratch3 cc0_scratch4 (vw c) u1 u2 u3 u4 u5 (Scalar.cmpi .sge (vw c) 3#32)) Q := by
  rw [k0_part7_eq_skeleton]; unfold k0_part7_skel
  simp (config := {zeta := false}) only [Prog.lift, Prog.bind_op, Prog.bind_ret, Prog.pure_eq_ret]
  iintro ⟨#HR, ⟨V0, V1⟩, ⟨V2, V3, V4, V5, V6⟩, B0, Hw, HO, HQ⟩
  extract_lets +onlyGivenNames -underBinder w105 w106 j1
  simp only [w105, w106]
  iapply (recv_at m K c 2 2 rfl (bwd2 c))
  isplitr; · iexact HR
  isplitl [V2]; · iexact V2
  isplitl [HO]; · iexact HO
  iintro ⟨V2, HO⟩
  simp (config := {zeta := false}) only [j1]
  extract_lets +onlyGivenNames -underBinder w107 w108 w109 j2
  simp only [w107, w108, w109]
  iapply (recv_at m K c 3 3 rfl (bwd3 c))
  isplitr; · iexact HR
  isplitl [V3]; · iexact V3
  isplitl [HO]; · iexact HO
  iintro ⟨V3, HO⟩
  simp (config := {zeta := false}) only [j2]
  extract_lets +onlyGivenNames -underBinder w110 w111 w112 j3
  simp only [w110, w111, w112]
  iapply (recv_at m K c 4 4 rfl (bwd4 c))
  isplitr; · iexact HR
  isplitl [V4]; · iexact V4
  isplitl [HO]; · iexact HO
  iintro ⟨V4, HO⟩
  simp (config := {zeta := false}) only [j3]
  extract_lets +onlyGivenNames -underBinder w113 w114 w115 j4
  simp only [w113, w114, w115]
  iapply (recv_at m K c 5 5 rfl (bwd5 c))
  isplitr; · iexact HR
  isplitl [V5]; · iexact V5
  isplitl [HO]; · iexact HO
  iintro ⟨V5, HO⟩
  simp (config := {zeta := false}) only [j4]
  extract_lets +onlyGivenNames -underBinder w116 w117 w118 j5
  simp only [w116, w117, w118]
  iapply (recv_at m K c 6 6 rfl (bwd6 c))
  isplitr; · iexact HR
  isplitl [V6]; · iexact V6
  isplitl [HO]; · iexact HO
  iintro ⟨V6, HO⟩
  unfold recvPost
  icases V0 with ⟨⟨%T0, %hT0, V0⟩, Z0⟩
  icases V1 with ⟨⟨%T1, %hT1, V1⟩, Z1⟩
  icases V2 with ⟨⟨%T2, %hT2, V2⟩, Z2⟩
  icases V3 with ⟨⟨%T3, %hT3, V3⟩, Z3⟩
  icases V4 with ⟨⟨%T4, %hT4, V4⟩, Z4⟩
  icases V5 with ⟨⟨%T5, %hT5, V5⟩, Z5⟩
  icases V6 with ⟨⟨%T6, %hT6, V6⟩, Z6⟩
  have hj : iprop(slotHas c 0 T0 ∗ slotHas c 1 T1 ∗ slotHas c 2 T2 ∗ slotHas c 3 T3 ∗ slotHas c 4 T4 ∗ slotHas c 5 T5 ∗ slotHas c 6 T6)
      ⊢ iprop(∃ f, ⌜∀ j, (slotM j).view.read (Elt F) f = (![T0, T1, T2, T3, T4, T5, T6] : Fin 7 → Vec F S1x1024 .f32) j⌝ ∗ landPts c f) :=
    (Entails.of_eq (seven fun j : Fin 7 => slotHas c j ((![T0, T1, T2, T3, T4, T5, T6] : Fin 7 → Vec F S1x1024 .f32) j)).symm).trans (land_join c _)
  ihave Hl := hj $$ [V0 V1 V2 V3 V4 V5 V6]
  · isplitl [V0]; · iexact V0
    isplitl [V1]; · iexact V1
    isplitl [V2]; · iexact V2
    isplitl [V3]; · iexact V3
    isplitl [V4]; · iexact V4
    isplitl [V5]; · iexact V5
    iexact V6
  icases Hl with ⟨%f, %hf, Hl⟩
  have hs : ∀ j, Bwd c j → shapeCast S1x1024 (slotLd f j) shapeCasts_S1x1x1024_S1x1024 = tot m (pv j c) := fun j hB =>
    (hf j).trans (match j, hB with
      | 0, hB => hT0 hB
      | 1, hB => hT1 hB
      | 2, hB => hT2 hB
      | 3, hB => hT3 hB
      | 4, hB => hT4 hB
      | 5, hB => hT5 hB
      | 6, hB => hT6 hB
    )
  simp (config := {zeta := false}) only [j5]
  extract_lets +onlyGivenNames -underBinder w119 w120 w121 j6
  have tail : ∀ Y, Closed m c X Y → iprop(records m K ∗ backPre m c 0 ∗ owing c 0 ∗ ((backPost m c 0 ∗ owing c 0) -∗ Q ⟨⟩)) ⊢ wpc c (j6 ⟨⟩) Q := fun Y hY => by
    iintro ⟨#HR, B0, HO, HQ⟩
    simp (config := {zeta := false}) only [j6]
    extract_lets +onlyGivenNames -underBinder w122 w123 w124 w125 j7
    simp only [w122, w123, w124, w125]
    iapply (back_at m K c 0 0 rfl (out0 c))
    isplitr; · iexact HR
    isplitl [B0]; · iexact B0
    isplitl [HO]; · iexact HO
    iintro ⟨B0, HO⟩
    simp only [j7]
    iapply (wpc_ret c _ _)
    iapply HQ
    isplitl [B0] <;> iassumption
  simp (config := {zeta := false}) only [w119, w120, w121]
  by_cases h0 : 0 < c.val
  · rw [dif_pos ((later c).mpr h0)]
    iapply (wpc_bind c _ _)
    iapply (wp_part4 c i a1 h1 a2 h2 h3 h4 h5 f)
    isplitl [Hl]; · iexact Hl
    iintro Hl
    iapply (load_slot c f 5 5 rfl)
    isplitl [Hl]; · iexact Hl
    iintro Hl
    iapply (load_slot c f 6 6 rfl)
    isplitl [Hl]; · iexact Hl
    iintro Hl
    iapply (load_all c a2 X)
    isplitl [Hw]; · iexact Hw
    iintro Hw
    iapply (load_some c a2 X)
    isplitl [Hw]; · iexact Hw
    iintro %v Hw
    iapply (store_all c a2 X _)
    isplitl [Hw]; · iexact Hw
    iintro Hw
    have hY : Closed m c X (k0_pay7 (vw c) (k0_pay5 (vw c) (slotLd f 0) (slotLd f 1) (slotLd f 2) (slotLd f 3) (slotLd f 4)) (Scalar.cmpi .sge (vw c) 6#32) (slotLd f 5) (slotLd f 6) X) :=
      ⟨fun h => absurd h0 h, fun _ => ⟨slotLd f, hs, rfl⟩⟩
    iapply (tail _ hY)
    isplitr; · iexact HR
    isplitl [B0]; · iexact B0
    isplitl [HO]; · iexact HO
    iintro ⟨B0, HO⟩
    iapply HQ
    isplitl [Hl]; · iexists f; iexact Hl
    isplitl [Z0 Z1 Z2 Z3 Z4 Z5 Z6]
    · isplitl [Z0]; · iexact Z0
      isplitl [Z1]; · iexact Z1
      isplitl [Z2]; · iexact Z2
      isplitl [Z3]; · iexact Z3
      isplitl [Z4]; · iexact Z4
      isplitl [Z5]; · iexact Z5
      iexact Z6
    isplitl [B0]; · iexact B0
    isplitl [Hw]
    · iexists _
      isplitr; · ipureintro; exact hY
      iexact Hw
    iexact HO
  · rw [dif_neg fun h => h0 ((later c).mp h)]
    have hY : Closed m c X X := ⟨fun _ => rfl, fun h => absurd h h0⟩
    iapply (tail _ hY)
    isplitr; · iexact HR
    isplitl [B0]; · iexact B0
    isplitl [HO]; · iexact HO
    iintro ⟨B0, HO⟩
    iapply HQ
    isplitl [Hl]; · iexists f; iexact Hl
    isplitl [Z0 Z1 Z2 Z3 Z4 Z5 Z6]
    · isplitl [Z0]; · iexact Z0
      isplitl [Z1]; · iexact Z1
      isplitl [Z2]; · iexact Z2
      isplitl [Z3]; · iexact Z3
      isplitl [Z4]; · iexact Z4
      isplitl [Z5]; · iexact Z5
      iexact Z6
    isplitl [B0]; · iexact B0
    isplitl [Hw]
    · iexists X
      isplitr; · ipureintro; exact hY
      iexact Hw
    iexact HO

set_option maxHeartbeats 1600000 in
/-- Part 8: the sources of the next five transfers. -/
theorem wp_part8 {Q : BitVec 32 → sProp 𝕄} :
    iprop(records m K ∗ (backPre m c 1 ∗ backPre m c 2 ∗ backPre m c 3 ∗ backPre m c 4 ∗ backPre m c 5) ∗ owing c 0
        ∗ (((backPost m c 1 ∗ backPost m c 2 ∗ backPost m c 3 ∗ backPost m c 4 ∗ backPost m c 5) ∗ owing c 0)
            -∗ Q (Scalar.extui (Scalar.cmpi .slt (Scalar.addi (vw c) 7#32) 8#32))))
      ⊢ wpc c (k0_part8 i a1 h1 a2 h2 cM h3 lM h4 sM h5 cc0_scratch3 cc0_scratch4 (vw c)) Q := by
  rw [k0_part8_eq_skeleton]; unfold k0_part8_skel
  simp (config := {zeta := false}) only [Prog.lift, Prog.bind_op, Prog.bind_ret, Prog.pure_eq_ret]
  iintro ⟨#HR, ⟨B1, B2, B3, B4, B5⟩, HO, HQ⟩
  extract_lets +onlyGivenNames -underBinder w126 w127 w128 w129 j1
  simp only [w126, w127, w128, w129]
  iapply (back_at m K c 1 1 rfl (out1 c))
  isplitr; · iexact HR
  isplitl [B1]; · iexact B1
  isplitl [HO]; · iexact HO
  iintro ⟨B1, HO⟩
  simp (config := {zeta := false}) only [j1]
  extract_lets +onlyGivenNames -underBinder w130 w131 w132 w133 j2
  simp only [w130, w131, w132, w133]
  iapply (back_at m K c 2 2 rfl (out2 c))
  isplitr; · iexact HR
  isplitl [B2]; · iexact B2
  isplitl [HO]; · iexact HO
  iintro ⟨B2, HO⟩
  simp (config := {zeta := false}) only [j2]
  extract_lets +onlyGivenNames -underBinder w134 w135 w136 w137 j3
  simp only [w134, w135, w136, w137]
  iapply (back_at m K c 3 3 rfl (out3 c))
  isplitr; · iexact HR
  isplitl [B3]; · iexact B3
  isplitl [HO]; · iexact HO
  iintro ⟨B3, HO⟩
  simp (config := {zeta := false}) only [j3]
  extract_lets +onlyGivenNames -underBinder w138 w139 w140 w141 j4
  simp only [w138, w139, w140, w141]
  iapply (back_at m K c 4 4 rfl (out4 c))
  isplitr; · iexact HR
  isplitl [B4]; · iexact B4
  isplitl [HO]; · iexact HO
  iintro ⟨B4, HO⟩
  simp (config := {zeta := false}) only [j4]
  extract_lets +onlyGivenNames -underBinder w142 w143 w144 w145 j5
  simp only [w142, w143, w144, w145]
  iapply (back_at m K c 5 5 rfl (out5 c))
  isplitr; · iexact HR
  isplitl [B5]; · iexact B5
  isplitl [HO]; · iexact HO
  iintro ⟨B5, HO⟩
  simp only [j5]
  iapply (wpc_ret c _ _)
  iapply HQ
  isplitl [B1 B2 B3 B4 B5]
  · isplitl [B1]; · iexact B1
    isplitl [B2]; · iexact B2
    isplitl [B3]; · iexact B3
    isplitl [B4]; · iexact B4
    iexact B5
  iexact HO

end Cert.KernelIdeal.Scan

end
-- ==== Proof.KernelIdeal.Opening.lean ====
/-
The body's opening at the first grid point, the signals and the barrier, and the load of the block of `x`.
-/
module

public import proofs.«01_k».proof.Proof.KernelIdeal.Parts

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

attribute [local irreducible] k0_cond1 k0_dev1 k0_dev2 k0_dev3 k0_dev4 k0_dev5 k0_dev6 k0_dev7 Scalar.cmpi Scalar.extui Scalar.remsi Scalar.divsi Scalar.addi

/-- The two amounts as the words that denote them. -/
theorem one_word : (1#32 : BitVec 32).toInt = 1 := by decide
theorem seven_word : (7#32 : BitVec 32).toInt = 7 := by decide

section Opening
variable (i : grid0.Coords) (a1 : Memref sig .tc .vmem S512x1024 .bf16) (h1 : a1.IsWhole) (a2 : Memref sig .tc .vmem S8192x1024 .bf16) (h2 : a2.IsWhole)
  (h3 : (cM).IsWhole) (h4 : (lM).IsWhole) (h5 : (sM).IsWhole)

/-- What the signal of slot `j` starts from: the duty it pays and the slot it may hand over. -/
def signalPre (c : Dev nD) (j : Fin 7) : sProp 𝕄 := iprop(dutyTok ER (barCell (pv j c)) 0 j ∗ slotAny c j)

theorem signal_at (j : Fin 7) {n : Dev nD} (hn : n = pv j c) (O : CellTallies nD τ sig Unit)
    {α : Type} {k : PUnit → Prog (TpuEff nD τ sig (Elt F) Λ₀ .tc) α} {Q : α → sProp 𝕄} :
    iprop(records m K ∗ signalPre c j ∗ owing c (O + oweB c j) ∗ ((slotKept c j ∗ owing c O) -∗ wpc c (k ⟨⟩) Q))
      ⊢ wpc c (.op (.semSignal (n, .tc) barS (1#32 : BitVec 32).toInt) k) Q := by
  rw [one_word]
  unfold signalPre
  iintro ⟨#HR, ⟨Ht, Hs⟩, HO, HQ⟩
  iapply (signal_step m K c j hn O)
  isplitr; · iexact HR
  isplitl [Ht]; · iexact Ht
  isplitl [Hs]; · iexact Hs
  isplitl [HO]; · iexact HO
  iexact HQ

theorem barrier_at {α : Type} {k : PUnit → Prog (TpuEff nD τ sig (Elt F) Λ₀ .tc) α} {Q : α → sProp 𝕄} :
    iprop(records m K ∗ cred (tallyAt (barCell c) () 7) ∗ atPos ER (barCell c) 0 ∅ 0 ∗ owing c (O₁ c) ∗ levAts L lv
        ∗ ((bigSep Finset.univ (fun j : Fin 7 => if Fwd c j then slotAny (nx j c) j else iprop(emp)) ∗ semVal (barCell c) 0 ∗ owing c (O₁ c))
            -∗ wpc c (k ⟨⟩) Q))
      ⊢ wpc c (.op (.semWait barS (7#32 : BitVec 32).toInt) k) Q := by
  rw [seven_word]; exact barrier_step m K c

/-- Part 1: the carry starts at ones; the first two signals. -/
theorem wp_part1 (hi : k0_cond1 i = 1#1) {Q : (Σ' (v63 : Sems sig S_) (v90 : BitVec 32), BitVec 32) → sProp 𝕄} :
    iprop(records m K ∗ (∃ f, carryPts c f) ∗ (signalPre c 6 ∗ signalPre c 5) ∗ owing c (O₁ c + oweB c 0 + oweB c 1 + oweB c 2 + oweB c 3 + oweB c 4 + oweB c 5 + oweB c 6)
        ∗ (∀ u v, (carryPts c k0_pay4 ∗ (slotKept c 6 ∗ slotKept c 5) ∗ owing c (O₁ c + oweB c 0 + oweB c 1 + oweB c 2 + oweB c 3 + oweB c 4)) -∗ Q ⟨SemArray.scalar (sig.barrier 0 rfl), u, v⟩))
      ⊢ wpc c (k0_part1 i a1 h1 a2 h2 cM h3 lM h4 sM h5 cc0_scratch3 cc0_scratch4 c (vw c) hi) Q := by
  rw [k0_part1_eq_skeleton]; unfold k0_part1_skel
  simp only [semSignalWord, semWaitWord, Prog.lift, Prog.bind_op, Prog.bind_ret, Prog.pure_eq_ret]
  iintro ⟨#HR, ⟨%f, Hc⟩, ⟨T6, T5⟩, HO, HQ⟩
  iapply (load_carry c _)
  isplitl [Hc]; · iexact Hc
  iintro Hc
  iapply (store_carry c _ _)
  isplitl [Hc]; · iexact Hc
  iintro Hc
  iapply (signal_at m K c 6 (sig1 c) _)
  isplitr; · iexact HR
  isplitl [T6]; · iexact T6
  isplitl [HO]; · iexact HO
  iintro ⟨T6, HO⟩
  iapply (signal_at m K c 5 (sig2 c) _)
  isplitr; · iexact HR
  isplitl [T5]; · iexact T5
  isplitl [HO]; · iexact HO
  iintro ⟨T5, HO⟩
  iapply (wpc_ret c _ _)
  iapply HQ
  isplitl [Hc]; · iexact Hc
  isplitl [T6 T5]
  · isplitl [T6] <;> iassumption
  iexact HO

/-- Part 2: the next two signals. -/
theorem wp_part2 (hi : k0_cond1 i = 1#1) {u v : BitVec 32} {Q : (Σ' (v118 : BitVec 32) (v119 : BitVec 32) (v120 : BitVec 1), BitVec 1) → sProp 𝕄} :
    iprop(records m K ∗ (signalPre c 4 ∗ signalPre c 3) ∗ owing c (O₁ c + oweB c 0 + oweB c 1 + oweB c 2 + oweB c 3 + oweB c 4)
        ∗ (∀ w, ((slotKept c 4 ∗ slotKept c 3) ∗ owing c (O₁ c + oweB c 0 + oweB c 1 + oweB c 2)) -∗ Q w))
      ⊢ wpc c (k0_part2 i a1 h1 a2 h2 cM h3 lM h4 sM h5 cc0_scratch3 cc0_scratch4 c (vw c) hi (SemArray.scalar (sig.barrier 0 rfl)) u v) Q := by
  rw [k0_part2_eq_skeleton]; unfold k0_part2_skel
  simp only [semSignalWord, semWaitWord, Prog.lift, Prog.bind_op, Prog.bind_ret, Prog.pure_eq_ret]
  iintro ⟨#HR, ⟨T4, T3⟩, HO, HQ⟩
  iapply (signal_at m K c 4 (sig3 c) _)
  isplitr; · iexact HR
  isplitl [T4]; · iexact T4
  isplitl [HO]; · iexact HO
  iintro ⟨T4, HO⟩
  iapply (signal_at m K c 3 (sig4 c) _)
  isplitr; · iexact HR
  isplitl [T3]; · iexact T3
  isplitl [HO]; · iexact HO
  iintro ⟨T3, HO⟩
  iapply (wpc_ret c _ _)
  iapply HQ
  isplitl [T4 T3]
  · isplitl [T4] <;> iassumption
  iexact HO

/-- Part 3: the last three signals and the barrier. -/
theorem wp_part3 (hi : k0_cond1 i = 1#1) {u v : BitVec 32} {x y : BitVec 1} {Q : PUnit → sProp 𝕄} :
    iprop(records m K ∗ (signalPre c 2 ∗ signalPre c 1 ∗ signalPre c 0) ∗ owing c (O₁ c + oweB c 0 + oweB c 1 + oweB c 2)
        ∗ cred (tallyAt (barCell c) () 7) ∗ atPos ER (barCell c) 0 ∅ 0 ∗ levAts L lv
        ∗ (((slotKept c 2 ∗ slotKept c 1 ∗ slotKept c 0) ∗ bigSep Finset.univ (fun j : Fin 7 => if Fwd c j then slotAny (nx j c) j else iprop(emp))
            ∗ semVal (barCell c) 0 ∗ owing c (O₁ c)) -∗ Q ⟨⟩))
      ⊢ wpc c (k0_part3 i a1 h1 a2 h2 cM h3 lM h4 sM h5 cc0_scratch3 cc0_scratch4 c (vw c) hi (SemArray.scalar (sig.barrier 0 rfl)) u v x y) Q := by
  rw [k0_part3_eq_skeleton]; unfold k0_part3_skel
  simp only [semSignalWord, semWaitWord, Prog.lift, Prog.bind_op, Prog.bind_ret, Prog.pure_eq_ret]
  iintro ⟨#HR, ⟨T2, T1, T0⟩, HO, Hcr, Hat, #Hlev, HQ⟩
  iapply (signal_at m K c 2 (sig5 c) _)
  isplitr; · iexact HR
  isplitl [T2]; · iexact T2
  isplitl [HO]; · iexact HO
  iintro ⟨T2, HO⟩
  iapply (signal_at m K c 1 (sig6 c) _)
  isplitr; · iexact HR
  isplitl [T1]; · iexact T1
  isplitl [HO]; · iexact HO
  iintro ⟨T1, HO⟩
  iapply (signal_at m K c 0 (sig7 c) _)
  isplitr; · iexact HR
  isplitl [T0]; · iexact T0
  isplitl [HO]; · iexact HO
  iintro ⟨T0, HO⟩
  iapply (barrier_at m K c)
  isplitr; · iexact HR
  isplitl [Hcr]; · iexact Hcr
  isplitl [Hat]; · iexact Hat
  isplitl [HO]; · iexact HO
  isplitr; · iexact Hlev
  iintro ⟨Hn, Hz, HO⟩
  iapply (wpc_ret c _ _)
  iapply HQ
  isplitl [T2 T1 T0]
  · isplitl [T2]; · iexact T2
    isplitl [T1] <;> iassumption
  isplitl [Hn]; · iexact Hn
  isplitl [Hz] <;> iassumption

/-- What the opening starts from at the first grid point, apart from what is owed. -/
def openPre (c : Dev nD) : sProp 𝕄 :=
  iprop((∃ f, carryPts c f) ∗ (bigSep Finset.univ fun j : Fin 7 => signalPre c j) ∗ cred (tallyAt (barCell c) () 7) ∗ atPos ER (barCell c) 0 ∅ 0)
/-- What it leaves. -/
def openPost (c : Dev nD) : sProp 𝕄 :=
  iprop(carryPts c k0_pay4 ∗ (bigSep Finset.univ fun j : Fin 7 => slotKept c j)
    ∗ bigSep Finset.univ (fun j : Fin 7 => if Fwd c j then slotAny (nx j c) j else iprop(emp)) ∗ semVal (barCell c) 0)

/-- What part 9 returns, after the block of `x` reads `X`. -/
abbrev part9Out (X : Vec F S512x1024 .bf16) : Σ' (arg0 : BitVec 32) (d0 : Dev nD) (v2 : BitVec 32) (v40 : FVec F S512x1024 .f32), FVec F S256x1024 .f32 :=
  ⟨BitVec.ofNat 32 (i 0).val, c, vw c, k0_pay8 X, k0_pay9 (F := F)⟩

set_option maxHeartbeats 1600000 in
/-- Part 9 at the first grid point. -/
theorem wp_part9_first (hi : k0_cond1 i = 1#1) (X : Vec F S512x1024 .bf16) {Q : (Σ' (arg0 : BitVec 32) (d0 : Dev nD) (v2 : BitVec 32) (v40 : FVec F S512x1024 .f32), FVec F S256x1024 .f32) → sProp 𝕄} :
    iprop(records m K ∗ openPre c ∗ owing c (O₀ c) ∗ levAts L lv ∗ holds c a1 X
        ∗ ((openPost c ∗ owing c (O₁ c) ∗ holds c a1 X) -∗ Q (part9Out c i X)))
      ⊢ wpc c (k0_part9 i a1 h1 a2 h2 cM h3 lM h4 sM h5 cc0_scratch3 cc0_scratch4) Q := by
  rw [k0_part9_eq_skeleton]; unfold k0_part9_skel
  unfold openPre openPost O₀
  rw [seven, seven fun j => slotKept (F := F) c j]
  simp only [Prog.lift, Prog.bind_op, Prog.bind_ret, Prog.pure_eq_ret, wp_deviceId]
  rw [dif_pos hi]
  iintro ⟨#HR, ⟨Hc, ⟨T0, T1, T2, T3, T4, T5, T6⟩, Hcr, Hat⟩, HO, #Hlev, Hx, HQ⟩
  iapply (wpc_bind c _ _)
  iapply (wp_part1 m K c i a1 h1 a2 h2 h3 h4 h5 hi)
  isplitr; · iexact HR
  isplitl [Hc]; · iexact Hc
  isplitl [T6 T5]
  · isplitl [T6] <;> iassumption
  isplitl [HO]; · iexact HO
  iintro %u %v ⟨Hc, ⟨T6, T5⟩, HO⟩
  iapply (wpc_bind c _ _)
  iapply (wp_part2 m K c i a1 h1 a2 h2 h3 h4 h5 hi)
  isplitr; · iexact HR
  isplitl [T4 T3]
  · isplitl [T4] <;> iassumption
  isplitl [HO]; · iexact HO
  iintro %w ⟨⟨T4, T3⟩, HO⟩
  iapply (wpc_bind c _ _)
  iapply (wp_part3 m K c i a1 h1 a2 h2 h3 h4 h5 hi)
  isplitr; · iexact HR
  isplitl [T2 T1 T0]
  · isplitl [T2]; · iexact T2
    isplitl [T1] <;> iassumption
  isplitl [HO]; · iexact HO
  isplitl [Hcr]; · iexact Hcr
  isplitl [Hat]; · iexact Hat
  isplitr; · iexact Hlev
  iintro ⟨⟨T2, T1, T0⟩, Hn, Hz, HO⟩
  iapply (load_all c a1 X)
  isplitl [Hx]; · iexact Hx
  iintro Hx
  iapply (wpc_ret c _ _)
  iapply HQ
  isplitl [Hc T0 T1 T2 T3 T4 T5 T6 Hn Hz]
  · isplitl [Hc]; · iexact Hc
    isplitl [T0 T1 T2 T3 T4 T5 T6]
    · isplitl [T0]; · iexact T0
      isplitl [T1]; · iexact T1
      isplitl [T2]; · iexact T2
      isplitl [T3]; · iexact T3
      isplitl [T4]; · iexact T4
      isplitl [T5]; · iexact T5
      iexact T6
    isplitl [Hn] <;> iassumption
  isplitl [HO] <;> iassumption

/-- Part 9 at a later grid point. -/
theorem wp_part9_rest (hi : ¬ k0_cond1 i = 1#1) (X : Vec F S512x1024 .bf16) {Q : (Σ' (arg0 : BitVec 32) (d0 : Dev nD) (v2 : BitVec 32) (v40 : FVec F S512x1024 .f32), FVec F S256x1024 .f32) → sProp 𝕄} :
    iprop(holds c a1 X ∗ (holds c a1 X -∗ Q (part9Out c i X)))
      ⊢ wpc c (k0_part9 i a1 h1 a2 h2 cM h3 lM h4 sM h5 cc0_scratch3 cc0_scratch4) Q := by
  rw [k0_part9_eq_skeleton]; unfold k0_part9_skel
  simp only [Prog.lift, Prog.bind_op, Prog.bind_ret, Prog.pure_eq_ret, wp_deviceId]
  rw [dif_neg hi]
  iintro ⟨Hx, HQ⟩
  iapply (load_all c a1 X)
  isplitl [Hx]; · iexact Hx
  iintro Hx
  iapply (wpc_ret c _ _)
  iapply HQ
  iexact Hx

end Opening

end Cert.KernelIdeal.Scan

end
-- ==== Proof.KernelIdeal.Body.lean ====
/-
The body of one grid point: every point multiplies its block by the carry and stores it, and the last one also sends,
receives and multiplies the whole result by the totals of the devices before.
-/
module

public import proofs.«01_k».proof.Proof.KernelIdeal.Opening

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

attribute [local irreducible] k0_cond1 k0_cond2 Scalar.cmpi Scalar.extui Scalar.remsi Scalar.divsi Scalar.addi

section Point
variable (i : grid0.Coords) (a1 : Memref sig .tc .vmem S512x1024 .bf16) (h1 : a1.IsWhole) (a2 : Memref sig .tc .vmem S8192x1024 .bf16) (h2 : a2.IsWhole)
  (h3 : (cM).IsWhole) (h4 : (lM).IsWhole) (h5 : (sM).IsWhole)

/-- The block `i` of `Y` is the product of the block `X` with the carry `C`, and elsewhere `Y` is `Y₀`. -/
def Stored (X : Vec F S512x1024 .bf16) (C : Vec F S1x1024 .f32) (Y₀ Y : Vec F S8192x1024 .bf16) : Prop :=
  (∀ x, Y ((Rect.unit (s := S8192x1024) (k0_off1 i) S512x1024.size (k0_off1_inb i)).emb x) = k0_pay2 (k0_pay8 X) (k0_pay9 (F := F)) C x)
    ∧ ∀ y, y ∉ (Rect.unit (s := S8192x1024) (k0_off1 i) S512x1024.size (k0_off1_inb i)).set → Y y = Y₀ y

set_option maxHeartbeats 1600000 in
/-- A grid point other than the last, after whatever its part 9 does. -/
theorem wp_point (hi : ¬ k0_cond2 i = 1#1) (X : Vec F S512x1024 .bf16) (C : Vec F S1x1024 .f32) (Y₀ : Vec F S8192x1024 .bf16) {P R : sProp 𝕄}
    (hop : ∀ Q' : (Σ' (arg0 : BitVec 32) (d0 : Dev nD) (v2 : BitVec 32) (v40 : FVec F S512x1024 .f32), FVec F S256x1024 .f32) → sProp 𝕄,
      iprop(P ∗ ((carryPts c C ∗ R ∗ holds c a1 X) -∗ Q' (part9Out c i X)))
        ⊢ wpc c (k0_part9 i a1 h1 a2 h2 cM h3 lM h4 sM h5 cc0_scratch3 cc0_scratch4) Q') {Q : PUnit → sProp 𝕄} :
    iprop(P ∗ holds c a2 Y₀
        ∗ (∀ Y, ⌜Stored i X C Y₀ Y⌝ -∗ (carryPts c (k0_pay3 (k0_pay8 X) k0_pay9 C) ∗ R ∗ holds c a1 X ∗ holds c a2 Y) -∗ Q ⟨⟩))
      ⊢ wpc c (cc0_body i a1 h1 a2 h2 cM h3 lM h4 sM h5 cc0_scratch3 cc0_scratch4) Q := by
  rw [cc0_body_eq_skeleton]; unfold cc0_body_skel
  simp only [Prog.lift, Prog.bind_op, Prog.bind_ret, Prog.pure_eq_ret]
  iintro ⟨HP, Hw, HQ⟩
  iapply (wpc_bind c _ _)
  iapply (hop _)
  isplitl [HP]; · iexact HP
  iintro ⟨Hc, Hr, Hx⟩
  iapply (load_carry c _)
  isplitl [Hc]; · iexact Hc
  iintro Hc
  iapply (load_some c a2 Y₀)
  isplitl [Hw]; · iexact Hw
  iintro %v Hw
  iapply (store_rect c a2 Y₀ _ _)
  isplitl [Hw]; · iexact Hw
  iintro %Y %hY Hw
  iapply (load_carry c _)
  isplitl [Hc]; · iexact Hc
  iintro Hc
  iapply (store_carry c _ _)
  isplitl [Hc]; · iexact Hc
  iintro Hc
  rw [dif_neg hi]
  iapply (wpc_ret c _ _)
  ihave HQ := HQ $$ %Y
  iapply HQ
  · ipureintro; exact hY
  isplitl [Hc]; · iexact Hc
  isplitl [Hr]; · iexact Hr
  isplitl [Hx] <;> iassumption

/-- What a device holds for slot `j` from the barrier to the last grid point. -/
def commPre (c : Dev nD) (j : Fin 7) : sProp 𝕄 := iprop(sendPre c j ∗ recvPre c j ∗ atPos ER (sendCell c j) 0 ∅ 0)

set_option maxHeartbeats 3200000 in
/-- The last grid point. -/
theorem wp_point_last (h0 : ¬ k0_cond1 i = 1#1) (hi : k0_cond2 i = 1#1) (X : Vec F S512x1024 .bf16) (C : Vec F S1x1024 .f32) (Y₀ : Vec F S8192x1024 .bf16)
    (hC : k0_pay3 (k0_pay8 X) k0_pay9 C = carryAt m c 16) {Q : PUnit → sProp 𝕄} :
    iprop(records m K ∗ carryPts c C ∗ (∃ f, stgPts c f) ∗ (bigSep Finset.univ fun j : Fin 7 => commPre c j) ∗ owing c (O₁ c) ∗ holds c a1 X ∗ holds c a2 Y₀
        ∗ (∀ Z, ⌜∃ Y, Stored i X C Y₀ Y ∧ Closed m c Y Z⌝ -∗ (carryPts c (carryAt m c 16) ∗ (∃ f, stgPts c f) ∗ (∃ f, landPts c f)
            ∗ (bigSep Finset.univ fun j : Fin 7 => iprop(semVal (sendCell c j) 0 ∗ semVal (recvCell c j) 0)) ∗ owing c 0 ∗ holds c a1 X ∗ holds c a2 Z) -∗ Q ⟨⟩))
      ⊢ wpc c (cc0_body i a1 h1 a2 h2 cM h3 lM h4 sM h5 cc0_scratch3 cc0_scratch4) Q := by
  rw [cc0_body_eq_skeleton]; unfold cc0_body_skel
  rw [seven, seven fun j => iprop(semVal (sendCell c j) 0 ∗ semVal (recvCell c j) 0)]
  unfold commPre
  simp only [Prog.lift, Prog.bind_op, Prog.bind_ret, Prog.pure_eq_ret]
  iintro ⟨#HR, Hc, Hs, ⟨⟨H0, V0, A0⟩, ⟨H1, V1, A1⟩, ⟨H2, V2, A2⟩, ⟨H3, V3, A3⟩, ⟨H4, V4, A4⟩, ⟨H5, V5, A5⟩, ⟨H6, V6, A6⟩⟩, HO, Hx, Hw, HQ⟩
  iapply (wpc_bind c _ _)
  iapply (wp_part9_rest c i a1 h1 a2 h2 h3 h4 h5 h0 X)
  isplitl [Hx]; · iexact Hx
  iintro Hx
  iapply (load_carry c _)
  isplitl [Hc]; · iexact Hc
  iintro Hc
  iapply (load_some c a2 Y₀)
  isplitl [Hw]; · iexact Hw
  iintro %v Hw
  iapply (store_rect c a2 Y₀ _ _)
  isplitl [Hw]; · iexact Hw
  iintro %Y %hY Hw
  iapply (load_carry c _)
  isplitl [Hc]; · iexact Hc
  iintro Hc
  iapply (store_carry c _ _)
  isplitl [Hc]; · iexact Hc
  iintro Hc
  rw [dif_pos hi, hC]
  iapply (wpc_bind c _ _)
  iapply (wp_part5 m K c i a1 h1 a2 h2 h3 h4 h5 hi)
  isplitr; · iexact HR
  isplitl [Hc]; · iexact Hc
  isplitl [Hs]; · iexact Hs
  isplitl [H0 H1 H2]
  · isplitl [H0]; · iexact H0
    isplitl [H1] <;> iassumption
  isplitl [HO]; · iexact HO
  iintro %v1 ⟨Hc, ⟨H0, H1, H2⟩, ⟨L3, L4, L5, L6, L7⟩, HO⟩
  iapply (wpc_bind c _ _)
  iapply (wp_part6 m K c i a1 h1 a2 h2 h3 h4 h5 hi)
  isplitr; · iexact HR
  isplitl [H3 H4 H5 H6]
  · isplitl [H3]; · iexact H3
    isplitl [H4]; · iexact H4
    isplitl [H5] <;> iassumption
  isplitl [L3 L4 L5 L6]
  · isplitl [L3]; · iexact L3
    isplitl [L4]; · iexact L4
    isplitl [L5] <;> iassumption
  isplitl [V0 V1]
  · isplitl [V0] <;> iassumption
  isplitl [HO]; · iexact HO
  iintro %e1 %e2 %e3 ⟨⟨H3, H4, H5, H6⟩, ⟨V0, V1⟩, HO⟩
  iapply (wpc_bind c _ _)
  iapply (wp_part7 m K c i a1 h1 a2 h2 h3 h4 h5 Y)
  isplitr; · iexact HR
  isplitl [V0 V1]
  · isplitl [V0] <;> iassumption
  isplitl [V2 V3 V4 V5 V6]
  · isplitl [V2]; · iexact V2
    isplitl [V3]; · iexact V3
    isplitl [V4]; · iexact V4
    isplitl [V5] <;> iassumption
  isplitl [H0 A0]
  · unfold backPre; isplitl [H0] <;> iassumption
  isplitl [Hw]; · iexact Hw
  isplitl [HO]; · iexact HO
  iintro ⟨Hl, ⟨V0, V1, V2, V3, V4, V5, V6⟩, B0, ⟨%Z, %hZ, Hw⟩, HO⟩
  iapply (wpc_bind c _ _)
  iapply (wp_part8 m K c i a1 h1 a2 h2 h3 h4 h5)
  isplitr; · iexact HR
  isplitl [H1 A1 H2 A2 H3 A3 H4 A4 H5 A5]
  · unfold backPre
    isplitl [H1 A1]
    · isplitl [H1] <;> iassumption
    isplitl [H2 A2]
    · isplitl [H2] <;> iassumption
    isplitl [H3 A3]
    · isplitl [H3] <;> iassumption
    isplitl [H4 A4]
    · isplitl [H4] <;> iassumption
    isplitl [H5] <;> iassumption
  isplitl [HO]; · iexact HO
  iintro ⟨⟨B1, B2, B3, B4, B5⟩, HO⟩
  iapply (back_at m K c 6 6 rfl (out6 c))
  isplitr; · iexact HR
  isplitl [H6 A6]
  · unfold backPre; isplitl [H6] <;> iassumption
  isplitl [HO]; · iexact HO
  iintro ⟨B6, HO⟩
  iapply (wpc_ret c _ _)
  unfold backPost
  icases B0 with ⟨B0, Z0⟩
  icases B1 with ⟨B1, Z1⟩
  icases B2 with ⟨B2, Z2⟩
  icases B3 with ⟨B3, Z3⟩
  icases B4 with ⟨B4, Z4⟩
  icases B5 with ⟨B5, Z5⟩
  icases B6 with ⟨B6, Z6⟩
  ihave Hs := ((Entails.of_eq (eight fun j => stgLeaf m c j).symm).trans (Entails.of_eq (stg_leaves m c).symm)) $$ [B0 B1 B2 B3 B4 B5 B6 L7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact L7
  ihave HQ := HQ $$ %Z
  iapply HQ
  · ipureintro; exact ⟨Y, hY, hZ⟩
  isplitl [Hc]; · iexact Hc
  isplitl [Hs]; · iexists _; iexact Hs
  isplitl [Hl]; · iexact Hl
  isplitl [Z0 Z1 Z2 Z3 Z4 Z5 Z6 V0 V1 V2 V3 V4 V5 V6]
  · isplitl [Z0 V0]
    · isplitl [Z0] <;> iassumption
    isplitl [Z1 V1]
    · isplitl [Z1] <;> iassumption
    isplitl [Z2 V2]
    · isplitl [Z2] <;> iassumption
    isplitl [Z3 V3]
    · isplitl [Z3] <;> iassumption
    isplitl [Z4 V4]
    · isplitl [Z4] <;> iassumption
    isplitl [Z5 V5]
    · isplitl [Z5] <;> iassumption
    isplitl [Z6] <;> iassumption
  isplitl [HO]; · iexact HO
  isplitl [Hx] <;> iassumption

end Point

end Cert.KernelIdeal.Scan

end
-- ==== Proof.KernelIdeal.Data.lean ====
/-
The proof data of the kernel's one pipeline: what the device holds between the grid points, what it owes there, and what
the output's staging buffer reads; and the body obligation at every grid point.
-/
module

public import proofs.«01_k».proof.Proof.KernelIdeal.Body

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

theorem coords_val : ∀ t : Fin grid0.N, (grid0.coords t 0).val = t.val := by decide
theorem cond1_iff : ∀ t : Fin grid0.N, k0_cond1 (grid0.coords t) = 1#1 ↔ t.val = 0 := by decide
theorem cond2_iff : ∀ t : Fin grid0.N, k0_cond2 (grid0.coords t) = 1#1 ↔ t.val = 15 := by decide
theorem lt16 (t : Fin cfg0.N) : t.val < 16 := lt_of_lt_of_eq t.isLt N_0

/-! ## The device's own result -/

/-- The grid point that stores the row of `y`, and the index of `y` in that point's block. -/
def ptOf (y : S8192x1024.Idx) : Fin cfg0.N :=
  ⟨(y 0).val / 512, by rw [show cfg0.N = 16 from N_0]; have h : (y 0).val < 8192 := (y 0).isLt; omega⟩
def inBlk (y : S8192x1024.Idx) : S512x1024.Idx := fun a => match a with
  | ⟨0, _⟩ => ⟨(y 0).val % 512, Nat.mod_lt _ (by decide)⟩
  | ⟨1, _⟩ => ⟨(y 1).val, (y 1).isLt⟩

/-- The result of device `c` before the totals of the others are multiplied in. -/
def own : Vec F S8192x1024 .bf16 := fun y => oblk m c (ptOf y) (inBlk y)

/-- What the output's staging buffer reads after grid point `t`. -/
def OutAt (t : ℕ) (X : Vec F S8192x1024 .bf16) : Prop :=
  if t = 15 then Closed m c (own m c) X else ∀ y : S8192x1024.Idx, (y 0).val < 512 * (t + 1) → X y = own m c y

/-- One more block is stored. -/
theorem stored_rows (t : Fin cfg0.N) {Y₀ Y : Vec F S8192x1024 .bf16}
    (h0 : ∀ y : S8192x1024.Idx, (y 0).val < 512 * t.val → Y₀ y = own m c y)
    (hY : Stored (grid0.coords t) (xblk m c t) (carryAt m c t.val) Y₀ Y) :
    ∀ y : S8192x1024.Idx, (y 0).val < 512 * (t.val + 1) → Y y = own m c y := by
  intro y hy
  have hoff : k0_off1 (grid0.coords t) = ![512 * t.val, 0] := by rw [k0_off1_eq, coords_val]
  by_cases h : (y 0).val < 512 * t.val
  · refine (hY.2 y ?_).trans (h0 y h)
    rw [Rect.mem_set_unit]
    intro hm
    have h1 := (hm 0).1
    rw [hoff] at h1
    exact absurd h (Nat.not_lt.mpr h1)
  · have hpt : ptOf y = t := Fin.ext (show (y 0).val / 512 = t.val by omega)
    have hemb : (Rect.unit (s := S8192x1024) (k0_off1 (grid0.coords t)) S512x1024.size (k0_off1_inb (grid0.coords t))).emb (inBlk y) = y :=
      funext fun a => Fin.ext (by
        show k0_off1 (grid0.coords t) a + 1 * (inBlk y a).val = (y a).val
        rw [hoff]
        match a with
        | ⟨0, _⟩ => show 512 * t.val + 1 * ((y 0).val % 512) = (y 0).val; omega
        | ⟨1, _⟩ => show 0 + 1 * (y 1).val = (y 1).val; omega)
    have h1 := hY.1 (inBlk y)
    rw [hemb] at h1
    rw [h1]
    unfold own oblk
    rw [hpt]

/-! ## What the device holds between the grid points -/

/-- The positions and the tokens of device `c`. -/
def dealt (c : Dev nD) (j : Fin 7) : sProp 𝕄 :=
  iprop(atPos ER (sendCell c j) 0 ∅ 0 ∗ atPos ER (recvCell c j) 0 ∅ 0 ∗ dutyTok ER (sendCell c j) 0 0 ∗ dutyTok ER (recvCell (nx j c) j) 0 0
    ∗ dutyTok ER (barCell (pv j c)) 0 j)
/-- The credit of the landing in slot `j`, if there is to be one. -/
def landCred (c : Dev nD) (j : Fin 7) : sProp 𝕄 := if Bwd c j then cred (tallyAt (recvCell c j) () N) else iprop(emp)

/-- What the launch hands device `c`. -/
def start (c : Dev nD) : sProp 𝕄 :=
  iprop((∃ K, records m K ∗ (bigSep Finset.univ fun j : Fin 7 => dealt c j) ∗ atPos ER (barCell c) 0 ∅ 0)
    ∗ cred (tallyAt (barCell c) () 7) ∗ (bigSep Finset.univ fun j : Fin 7 => landCred c j) ∗ levAts L lv)
/-- Before the first point. -/
def Φfirst (c : Dev nD) : sProp 𝕄 := iprop(start m c ∗ (∃ f, carryPts c f) ∗ (∃ f, landPts c f) ∗ (∃ f, stgPts c f))
/-- Between points, `n` of which are done. -/
def Φmid (c : Dev nD) (n : ℕ) : sProp 𝕄 :=
  iprop(∃ K, records m K ∗ carryPts c (carryAt m c n) ∗ (∃ f, stgPts c f) ∗ semVal (barCell c) 0 ∗ bigSep Finset.univ fun j : Fin 7 => commPre c j)
/-- After the last point. -/
def Φlast (c : Dev nD) : sProp 𝕄 :=
  iprop((∃ f, carryPts (F := F) c f) ∗ (∃ f, landPts c f) ∗ (∃ f, stgPts c f) ∗ semVal (barCell c) 0
    ∗ bigSep Finset.univ fun j : Fin 7 => iprop(semVal (sendCell c j) 0 ∗ semVal (recvCell c j) 0))
/-- With `n` points done. -/
def Φat (c : Dev nD) (n : ℕ) : sProp 𝕄 := if n = 0 then Φfirst m c else if n = 16 then Φlast c else Φmid m c n
/-- What is owed with `n` points done. -/
def owedAt (c : Dev nD) (n : ℕ) : CellTallies nD τ sig Unit := if n = 0 then O₀ c else if n = 16 then 0 else O₁ c

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => own m c
  Φ t := Φat m c t.val
  q _ := fullShare
  owed t := owedAt c t.val

/-- The output window is held to `OutAt`. -/
def marked (w : Fin cfg0.W) : Bool := match w with | ⟨0, _⟩ => false | ⟨1, _⟩ => true
def Rl (c : Dev nD) (w : Fin cfg0.W) (t : Fin cfg0.N) (X : (cfg0.win w).block.Idx → Elt F (cfg0.win w).elt) : Prop :=
  match w, X with
  | ⟨0, _⟩, _ => True
  | ⟨1, _⟩, X => OutAt m c t.val X

abbrev rdats (p : Fin 1) (c : Dev nD) : RDat τ (Elt F) Unit ℕ UU ℕ cfg0 c := (dats m ρ p c).toRRel marked (Rl m c)

/-- What the staging buffer of `x` holds at a point. -/
theorem before_x (t : Fin cfg0.N) (d) : (dats m ρ 0 c).before (0 : Fin 2) t d = xblk m c t := by
  unfold Dat.before; rw [if_pos (fetch0_0 t)]; rfl

/-- What the output's staging buffer reads before a point: the rows of the points before it. -/
theorem finds_rows (t : Fin cfg0.N) (X) (h : (rdats m ρ 0 c).Finds (1 : Fin 2) t X) :
    ∀ y : S8192x1024.Idx, (y 0).val < 512 * t.val → (X : Vec F S8192x1024 .bf16) y = own m c y := by
  intro y hy
  have ht : t.val ≠ 0 := fun h0 => by rw [h0] at hy; exact absurd hy (Nat.not_lt_zero _)
  have h16 := lt16 t
  have hf : (cfg0.win (1 : Fin 2)).fetch t = false := rfl
  rcases (RDat.finds_of_pos _ hf ht X).mp h with hfl | hL
  · have := (flush0_1 _).mp hfl
    dsimp only at this
    omega
  · have hR : OutAt m c (t.val - 1) X := Dat.toRRel_leaves (dat := dats m ρ 0 c) rfl hL
    unfold OutAt at hR
    rw [if_neg (by omega)] at hR
    exact hR y (by omega)

/-! ## The body obligation -/

theorem owesAt_intro (n : Fin (cfg0.N + 1)) (O : CellTallies nD τ sig Unit) (hO : (dats m ρ 0 c).owed n = O) :
    (owing c O : sProp 𝕄) ⊢ (dats m ρ 0 c).owesAt () n := by
  unfold owing Dat.owesAt Pipeline.owesWithin
  rw [hO]
  iintro ⟨%W, HO⟩
  iexists W
  isplitr; · ipureintro; exact fun _ _ => Or.inl trivial
  iexact HO
theorem owesAt_elim (n : Fin (cfg0.N + 1)) (O : CellTallies nD τ sig Unit) (hO : (dats m ρ 0 c).owed n = O) :
    (dats m ρ 0 c).owesAt () n ⊢ (owing c O : sProp 𝕄) := by
  unfold owing Dat.owesAt Pipeline.owesWithin
  rw [hO]
  iintro ⟨%W, -, HO⟩
  iexists W
  iexact HO

/-- What the handshake leaves is what every later point starts from. -/
theorem comm_intro (c : Dev nD) :
    iprop((bigSep Finset.univ fun j : Fin 7 => slotKept (F := F) c j) ∗ bigSep Finset.univ (fun j : Fin 7 => if Fwd c j then slotAny (F := F) (nx j c) j else iprop(emp))
        ∗ (bigSep Finset.univ fun j : Fin 7 => landCred (F := F) c j)
        ∗ bigSep Finset.univ fun j : Fin 7 => iprop(atPos ER (sendCell c j) 0 ∅ 0 ∗ atPos ER (recvCell c j) 0 ∅ 0 ∗ dutyTok ER (sendCell c j) 0 0 ∗ dutyTok ER (recvCell (nx j c) j) 0 0))
      ⊢ (bigSep Finset.univ fun j : Fin 7 => commPre (F := F) c j : sProp 𝕄) := by
  rw [← bigSep_sep', ← bigSep_sep', ← bigSep_sep']
  refine bigSep_mono fun j _ => ?_
  refine (show iprop(slotKept (F := F) c j ∗ (if Fwd c j then slotAny (F := F) (nx j c) j else iprop(emp)) ∗ landCred (F := F) c j
    ∗ (atPos ER (sendCell c j) 0 ∅ 0 ∗ atPos ER (recvCell c j) 0 ∅ 0 ∗ dutyTok ER (sendCell c j) 0 0 ∗ dutyTok ER (recvCell (nx j c) j) 0 0)) ⊢ commPre (F := F) c j from ?_)
  unfold commPre sendPre recvPre slotKept landCred
  by_cases h : Bwd c j
  · rw [if_pos h, if_pos h, if_pos h]
    iintro ⟨-, Hn, Hc, HS, HV, TS, TV⟩
    isplitl [Hn TS TV]
    · isplitl [Hn]; · iexact Hn
      isplitl [TS] <;> iassumption
    isplitl [Hc HV]
    · isplitl [Hc] <;> iassumption
    iexact HS
  · rw [if_neg h, if_neg h, if_neg h]
    iintro ⟨Hk, Hn, -, HS, HV, TS, TV⟩
    isplitl [Hn TS TV]
    · isplitl [Hn]; · iexact Hn
      isplitl [TS] <;> iassumption
    isplitl [Hk HV]
    · isplitl [Hk] <;> iassumption
    iexact HS

theorem dealt_split (c : Dev nD) :
    iprop((bigSep Finset.univ fun j : Fin 7 => dealt (F := F) c j) ∗ bigSep Finset.univ fun j : Fin 7 => slotAny (F := F) c j)
      ⊢ (iprop((bigSep Finset.univ fun j : Fin 7 => signalPre (F := F) c j)
        ∗ bigSep Finset.univ fun j : Fin 7 => iprop(atPos ER (sendCell c j) 0 ∅ 0 ∗ atPos ER (recvCell c j) 0 ∅ 0 ∗ dutyTok ER (sendCell c j) 0 0 ∗ dutyTok ER (recvCell (nx j c) j) 0 0)) : sProp 𝕄) := by
  rw [← bigSep_sep', ← bigSep_sep']
  refine bigSep_mono fun j _ => ?_
  refine (show iprop(dealt (F := F) c j ∗ slotAny (F := F) c j) ⊢ iprop(signalPre (F := F) c j
    ∗ (atPos ER (sendCell c j) 0 ∅ 0 ∗ atPos ER (recvCell c j) 0 ∅ 0 ∗ dutyTok ER (sendCell c j) 0 0 ∗ dutyTok ER (recvCell (nx j c) j) 0 0)) from ?_)
  unfold dealt signalPre
  iintro ⟨⟨HS, HV, TS, TV, TB⟩, Hs⟩
  isplitl [TB Hs]
  · isplitl [TB] <;> iassumption
  isplitl [HS]; · iexact HS
  isplitl [HV]; · iexact HV
  isplitl [TS] <;> iassumption

/-- The carry after a point. -/
theorem carry_succ (t : Fin cfg0.N) : carryAt m c (t.val + 1) = k0_pay3 (k0_pay8 (xblk m c t)) k0_pay9 (carryAt m c t.val) := by
  rw [carryAt, dif_pos t.isLt]

/-- The staging buffers the body is called on at point `t`. -/
abbrev xS (t : Fin cfg0.N) : Memref sig .tc .vmem S512x1024 .bf16 := win0_0.stage (cfg0.slots t 0)
abbrev oS (t : Fin cfg0.N) : Memref sig .tc .vmem S8192x1024 .bf16 := win0_1.stage (cfg0.slots t 1)

/-- The postcondition of a point. -/
abbrev ptPost (t : Fin cfg0.N) : sProp 𝕄 :=
  iprop(Φat m c (t.val + 1) ∗ owing c (owedAt c (t.val + 1)) ∗ holds c (xS t) (xblk m c t) ∗ ∃ X, ⌜OutAt m c t.val X⌝ ∗ holds c (oS t) X)

theorem point_first (t : Fin cfg0.N) (ht : t.val = 0) (Y₀ : Vec F S8192x1024 .bf16) :
    iprop(Φfirst m c ∗ owing c (O₀ c) ∗ holds c (xS t) (xblk m c t) ∗ holds c (oS t) Y₀)
      ⊢ wpc c (bodyAt0 t) fun _ => ptPost m c t := by
  unfold Φfirst start
  iintro ⟨⟨⟨⟨%K, #HR, Hd, Hat⟩, Hcr, Hlc, #Hlev⟩, Hc, Hl, Hs⟩, HO, Hx, Hw⟩
  ihave Hl := (land_split (F := F) c) $$ Hl
  ihave Hd := (dealt_split (F := F) c) $$ [Hd Hl]
  · isplitl [Hd] <;> iassumption
  icases Hd with ⟨Hsig, Hrest⟩
  iapply (wp_point c (grid0.coords t) (xS t) _ (oS t) _ _ _ _ (fun h => by have := (cond2_iff t).mp h; omega) (xblk m c t) (k0_pay4) Y₀
    (P := iprop(records m K ∗ openPre c ∗ owing c (O₀ c) ∗ levAts L lv ∗ holds c (xS t) (xblk m c t)))
    (R := iprop((bigSep Finset.univ fun j : Fin 7 => slotKept c j)
      ∗ bigSep Finset.univ (fun j : Fin 7 => if Fwd c j then slotAny (nx j c) j else iprop(emp)) ∗ semVal (barCell c) 0 ∗ owing c (O₁ c)))
    (fun Q' => by
      iintro ⟨⟨#HR, Ho, HO, #Hlev, Hx⟩, HQ⟩
      iapply (wp_part9_first m K c (grid0.coords t) (xS t) _ (oS t) _ _ _ _ ((cond1_iff t).mpr ht) (xblk m c t))
      isplitr; · iexact HR
      isplitl [Ho]; · iexact Ho
      isplitl [HO]; · iexact HO
      isplitr; · iexact Hlev
      isplitl [Hx]; · iexact Hx
      unfold openPost
      iintro ⟨⟨Hc, Hk, Hn, Hz⟩, HO, Hx⟩
      iapply HQ
      isplitl [Hc]; · iexact Hc
      isplitl [Hk Hn Hz HO]
      · isplitl [Hk]; · iexact Hk
        isplitl [Hn]; · iexact Hn
        isplitl [Hz] <;> iassumption
      iexact Hx))
  isplitl [Hc Hsig Hcr Hat HO Hx]
  · isplitr; · iexact HR
    isplitl [Hc Hsig Hcr Hat]
    · unfold openPre
      isplitl [Hc]; · iexact Hc
      isplitl [Hsig]; · iexact Hsig
      isplitl [Hcr] <;> iassumption
    isplitl [HO]; · iexact HO
    isplitr; · iexact Hlev
    iexact Hx
  isplitl [Hw]; · iexact Hw
  iintro %Y %hY ⟨Hc, ⟨Hk, Hn, Hz, HO⟩, Hx, Hw⟩
  have e0 : carryAt m c t.val = k0_pay4 := by rw [ht, carryAt]
  isplitl [Hc Hs Hz Hk Hn Hlc Hrest]
  · rw [show Φat m c (t.val + 1) = Φmid m c (t.val + 1) from by unfold Φat; rw [if_neg (by omega), if_neg (by omega)]]
    unfold Φmid
    iexists K
    isplitr; · iexact HR
    isplitl [Hc]; · rw [carry_succ, e0]; iexact Hc
    isplitl [Hs]; · iexact Hs
    isplitl [Hz]; · iexact Hz
    iapply (comm_intro c)
    isplitl [Hk]; · iexact Hk
    isplitl [Hn]; · iexact Hn
    isplitl [Hlc] <;> iassumption
  isplitl [HO]
  · rw [show owedAt c (t.val + 1) = O₁ c from by unfold owedAt; rw [if_neg (by omega), if_neg (by omega)]]
    iexact HO
  isplitl [Hx]; · iexact Hx
  iexists Y
  isplitr
  · ipureintro
    unfold OutAt; rw [if_neg (by omega)]
    exact stored_rows m c t (Y₀ := Y₀) (fun y hy => by rw [ht] at hy; exact absurd hy (Nat.not_lt_zero _)) (by rw [e0]; exact hY)
  iexact Hw

theorem point_mid (t : Fin cfg0.N) (h0 : t.val ≠ 0) (h15 : t.val ≠ 15) (Y₀ : Vec F S8192x1024 .bf16)
    (hY₀ : ∀ y : S8192x1024.Idx, (y 0).val < 512 * t.val → Y₀ y = own m c y) :
    iprop(Φmid m c t.val ∗ owing c (O₁ c) ∗ holds c (xS t) (xblk m c t) ∗ holds c (oS t) Y₀)
      ⊢ wpc c (bodyAt0 t) fun _ => ptPost m c t := by
  have h16 := lt16 t
  unfold Φmid
  iintro ⟨⟨%K, #HR, Hc, Hs, Hz, Hcomm⟩, HO, Hx, Hw⟩
  iapply (wp_point c (grid0.coords t) (xS t) _ (oS t) _ _ _ _ (fun h => h15 ((cond2_iff t).mp h)) (xblk m c t) (carryAt m c t.val) Y₀
    (P := iprop(carryPts c (carryAt m c t.val) ∗ holds c (xS t) (xblk m c t))) (R := iprop(emp))
    (fun Q' => by
      iintro ⟨⟨Hc, Hx⟩, HQ⟩
      iapply (wp_part9_rest c (grid0.coords t) (xS t) _ (oS t) _ _ _ _ (fun h => h0 ((cond1_iff t).mp h)) (xblk m c t))
      isplitl [Hx]; · iexact Hx
      iintro Hx
      iapply HQ
      isplitl [Hc]; · iexact Hc
      isplitr; · iempintro
      iexact Hx))
  isplitl [Hc Hx]
  · isplitl [Hc] <;> iassumption
  isplitl [Hw]; · iexact Hw
  iintro %Y %hY ⟨Hc, -, Hx, Hw⟩
  isplitl [Hc Hs Hz Hcomm]
  · rw [show Φat m c (t.val + 1) = Φmid m c (t.val + 1) from by unfold Φat; rw [if_neg (by omega), if_neg (by omega)]]
    unfold Φmid
    iexists K
    isplitr; · iexact HR
    isplitl [Hc]; · rw [carry_succ]; iexact Hc
    isplitl [Hs]; · iexact Hs
    isplitl [Hz] <;> iassumption
  isplitl [HO]
  · rw [show owedAt c (t.val + 1) = O₁ c from by unfold owedAt; rw [if_neg (by omega), if_neg (by omega)]]
    iexact HO
  isplitl [Hx]; · iexact Hx
  iexists Y
  isplitr
  · ipureintro
    unfold OutAt; rw [if_neg h15]
    exact stored_rows m c t hY₀ hY
  iexact Hw

theorem point_last (t : Fin cfg0.N) (h15 : t.val = 15) (Y₀ : Vec F S8192x1024 .bf16)
    (hY₀ : ∀ y : S8192x1024.Idx, (y 0).val < 512 * t.val → Y₀ y = own m c y) :
    iprop(Φmid m c t.val ∗ owing c (O₁ c) ∗ holds c (xS t) (xblk m c t) ∗ holds c (oS t) Y₀)
      ⊢ wpc c (bodyAt0 t) fun _ => ptPost m c t := by
  unfold Φmid
  iintro ⟨⟨%K, #HR, Hc, Hs, Hz, Hcomm⟩, HO, Hx, Hw⟩
  iapply (wp_point_last m K c (grid0.coords t) (xS t) _ (oS t) _ _ _ _ (fun h => by have := (cond1_iff t).mp h; omega) ((cond2_iff t).mpr h15)
    (xblk m c t) (carryAt m c t.val) Y₀ (by rw [← carry_succ, h15]))
  isplitr; · iexact HR
  isplitl [Hc]; · iexact Hc
  isplitl [Hs]; · iexact Hs
  isplitl [Hcomm]; · iexact Hcomm
  isplitl [HO]; · iexact HO
  isplitl [Hx]; · iexact Hx
  isplitl [Hw]; · iexact Hw
  iintro %Z %hZ ⟨Hc, Hs, Hl, Hsem, HO, Hx, Hw⟩
  isplitl [Hc Hs Hl Hsem Hz]
  · rw [show Φat m c (t.val + 1) = Φlast c from by unfold Φat; rw [if_neg (by omega), if_pos (by omega)]]
    unfold Φlast
    isplitl [Hc]; · iexists _; iexact Hc
    isplitl [Hl]; · iexact Hl
    isplitl [Hs]; · iexact Hs
    isplitl [Hz] <;> iassumption
  isplitl [HO]
  · rw [show owedAt c (t.val + 1) = 0 from by unfold owedAt; rw [if_neg (by omega), if_pos (by omega)]]
    iexact HO
  isplitl [Hx]; · iexact Hx
  iexists Z
  isplitr
  · ipureintro
    obtain ⟨Y, hY, hZ⟩ := hZ
    have e : Y = own m c := funext fun y => stored_rows m c t hY₀ hY y (by have h : (y 0).val < 8192 := (y 0).isLt; omega)
    unfold OutAt; rw [if_pos h15, ← e]
    exact hZ
  iexact Hw

/-- Every grid point. -/
theorem point (t : Fin cfg0.N) (Y₀ : Vec F S8192x1024 .bf16)
    (hY₀ : ∀ y : S8192x1024.Idx, (y 0).val < 512 * t.val → Y₀ y = own m c y) :
    iprop(Φat m c t.val ∗ owing c (owedAt c t.val) ∗ holds c (xS t) (xblk m c t) ∗ holds c (oS t) Y₀)
      ⊢ wpc c (bodyAt0 t) fun _ => ptPost m c t := by
  have h16 := lt16 t
  by_cases h0 : t.val = 0
  · have e1 : Φat m c t.val = Φfirst m c := if_pos h0
    have e2 : owedAt c t.val = O₀ c := if_pos h0
    rw [e1, e2]; exact point_first m c t h0 Y₀
  · have e1 : Φat m c t.val = Φmid m c t.val := by unfold Φat; rw [if_neg h0, if_neg (by omega)]
    have e2 : owedAt c t.val = O₁ c := by unfold owedAt; rw [if_neg h0, if_neg (by omega)]
    rw [e1, e2]
    by_cases h15 : t.val = 15
    · exact point_last m c t h15 Y₀ hY₀
    · exact point_mid m c t h0 h15 Y₀ hY₀

/-- The body obligation of the pipeline. -/
theorem body_obligation (c : Dev nD) : (rdats m ρ 0 c).BodyObligation (defs₀ (F := F)) 𝒱₀ () Set.univ := BodyObligationRel.toRRel _ fun t => by
  rw [bigSep_W0, bigSep_W0]
  show iprop(Φat m c t.val ∗ (dats m ρ 0 c).owesAt () t.castSucc ∗ (∃ d, holds c (xS t) ((dats m ρ 0 c).before (0 : Fin 2) t d))
      ∗ ∃ Y, ⌜(rdats m ρ 0 c).Finds (1 : Fin 2) t Y⌝ ∗ holds c (oS t) Y)
    ⊢ wpc c (bodyAt0 t) fun _ => iprop(Φat m c (t.val + 1) ∗ (dats m ρ 0 c).owesAt () t.succ ∗ holds c (xS t) (xblk m c t)
      ∗ ∃ X, ⌜OutAt m c t.val X⌝ ∗ holds c (oS t) X)
  refine BIBase.Entails.trans ?_ (wp_mono _ _ _ (fun _ => sep_mono_right (sep_mono_left (owesAt_intro m ρ c t.succ (owedAt c (t.val + 1)) rfl))))
  iintro ⟨HΦ, HO, ⟨%d, Hx⟩, ⟨%Y, %hY, Hw⟩⟩
  rw [before_x]
  ihave HO := (owesAt_elim m ρ c t.castSucc (owedAt c t.val) rfl) $$ HO
  iapply (point m c t Y (finds_rows m ρ c t Y hY))
  isplitl [HΦ]; · iexact HΦ
  isplitl [HO]; · iexact HO
  isplitl [Hx] <;> iassumption

end Cert.KernelIdeal.Scan

end
-- ==== Proof.KernelIdeal.Launch.lean ====
/-
The launch: the semaphores of all devices are turned into the protocol's invariants, the duty tokens are dealt to the
devices that pay with them, and the run of `main` follows with the contents of the result and all counters at zero.
-/
module

public import proofs.«01_k».proof.Proof.KernelIdeal.Data
public import Idealize.ShloMosaic.Lib.Pipeline.ArrRel
public import Idealize.ShloMosaic.Lib.Quiescent
public import Idealize.ShloMosaic.Lib.Pipeline.CollectiveSegs

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- The kernel's own semaphores: the send and the receive semaphores of the seven slots. -/
abbrev osem : Fin 14 → SemLoc sig := fun k => .dma ⟨3 + k.val, lt_of_lt_of_le (Nat.add_lt_add_left k.isLt 3) (by decide)⟩
theorem ownSemFacts : Pipeline.OwnSemFacts cfg0.spec osem := by decide

theorem share_eq (c : Dev nD) (w : Fin cfg0.W) : (rdats m ρ 0 c).share w = fullShare := by
  show (dats m ρ 0 c).share w = fullShare
  unfold Dat.share; split <;> rfl

/-! ## The cells and the tokens -/

theorem csem_injective : Function.Injective csem := by decide
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def lineCells : Finset (GSem nD τ sig) := Finset.univ.map ⟨kcell, kcell_injective⟩

/-- A slot's three tokens: the signal's, the send's, the receive's. -/
def tokSem (j : Fin 7) : Fin 3 → SemLoc sig × Fin 7
  | 0 => (.reg barS, j)
  | 1 => (.dma (sendS j), 0)
  | 2 => (.dma (recvS j), 0)
theorem tokSem_injective : Function.Injective fun x : Fin 7 × Fin 3 => tokSem x.1 x.2 := by decide
/-- The tokens as minted: device, slot, which of the three. -/
abbrev tokOf (x : Dev nD × Fin 7 × Fin 3) : GSem nD τ sig × ℕ × Fin 7 := (((x.1 : Thread nD τ), (tokSem x.2.1 x.2.2).1), 0, (tokSem x.2.1 x.2.2).2)
theorem tokOf_injective : Function.Injective tokOf := by
  rintro ⟨c, x⟩ ⟨c', x'⟩ h
  have h1 : c = c' := congrArg (fun g : GSem nD τ sig × ℕ × Fin 7 => g.1.1.1) h
  have h2 : x = x' := tokSem_injective (Prod.ext (congrArg (fun g : GSem nD τ sig × ℕ × Fin 7 => g.1.2) h) (congrArg (fun g : GSem nD τ sig × ℕ × Fin 7 => g.2.2) h))
  rw [h1, h2]
def lineToks : Finset (GSem nD τ sig × ℕ × Fin 7) := Finset.univ.map ⟨tokOf, tokOf_injective⟩

def u₀ : UU := (initOf (Pipeline.cells cfgs cellOf_inj) (Pipeline.launchToks cfgs cellOf_inj), initOf lineCells lineToks)

/-- The tokens of device `c`'s own cells. -/
def toks (c : Dev nD) : sProp 𝕄 :=
  bigSep Finset.univ fun j : Fin 7 => iprop(dutyTok ER (barCell c) 0 j ∗ dutyTok ER (sendCell c j) 0 0 ∗ dutyTok ER (recvCell c j) 0 0)
/-- What the launch element deals device `c`. -/
def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks c)
/-- What the devices hold once the invariants are allocated. -/
def G' (c : Dev nD) : sProp 𝕄 := iprop(∃ K, records m K ∗ (bigSep Finset.univ fun j : Fin 7 => dealt c j) ∗ atPos ER (barCell c) 0 ∅ 0)

/-- The cells of one device: the barrier, and a send and a receive cell per slot. -/
theorem bigSep_CI {M : Type} [URA M] (Φ : CI → sProp M) :
    bigSep Finset.univ Φ = iprop(Φ none ∗ bigSep Finset.univ fun j : Fin 7 => iprop(Φ (some (j, false)) ∗ Φ (some (j, true)))) := by
  rw [bigSep_univ_at Φ none, show (Finset.univ : Finset CI).erase none = Finset.univ.map Function.Embedding.some from by decide, bigSep_map, bigSep_univ_prod]
  congr 1
  exact bigSep_congr fun j _ => bigSep_univ_eq_bigSepL [false, true] (by decide) (by decide) _
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

theorem fund_line : BI.own (ER (initOf lineCells lineToks)) ⊢ (|==> bigSep Finset.univ (G m) : sProp 𝕄) := by
  have hX (Φ : GSem nD τ sig → sProp 𝕄) : bigSep lineCells Φ = bigSep Finset.univ fun c : Dev nD => bigSep Finset.univ fun k : CI => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    refine bigSep_congr fun c _ => ?_
    rw [bigSep_univ_prod]; unfold toks
    exact bigSep_congr fun j _ => by rw [bigSep_three]; rfl
  iintro HX
  imod (Rounds.fund ER (rd m) lineCells lineToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

abbrev ownS (c : Dev nD) : sProp 𝕄 := Pipeline.ownSems0 (Ix := Unit) (Name := ℕ) (U := UU) (Lvl := ℕ) (Val := Elt F) (τ := τ) osem c

theorem ownSems0_list (c : Dev nD) : (ownS (F := F) c)
    = iprop(semVal (sendCell c 0) 0 ∗ semVal (sendCell c 1) 0 ∗ semVal (sendCell c 2) 0 ∗ semVal (sendCell c 3) 0 ∗ semVal (sendCell c 4) 0
      ∗ semVal (sendCell c 5) 0 ∗ semVal (sendCell c 6) 0 ∗ semVal (recvCell c 0) 0 ∗ semVal (recvCell c 1) 0 ∗ semVal (recvCell c 2) 0
      ∗ semVal (recvCell c 3) 0 ∗ semVal (recvCell c 4) 0 ∗ semVal (recvCell c 5) 0 ∗ semVal (recvCell c 6) 0) := by
  unfold ownS; rw [Pipeline.ownSems0_eq_of_list c osem [0, 1, 2, 3, 4, 5, 6, 7, 8, 9, 10, 11, 12, 13] (by decide) (by decide)]; rfl
/-- The kernel's own semaphores, slot by slot. -/
theorem ownSems0_slots (c : Dev nD) :
    ownS (F := F) c ⊢ (bigSep Finset.univ fun j : Fin 7 => iprop(semVal (sendCell c j) 0 ∗ semVal (recvCell c j) 0) : sProp 𝕄) := by
  rw [ownSems0_list, bigSep_sep', seven, seven]
  iintro ⟨HS0, HS1, HS2, HS3, HS4, HS5, HS6, HR0, HR1, HR2, HR3, HR4, HR5, HR6⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [HR0]; · iexact HR0
  isplitl [HR1]; · iexact HR1
  isplitl [HR2]; · iexact HR2
  isplitl [HR3]; · iexact HR3
  isplitl [HR4]; · iexact HR4
  isplitl [HR5]; · iexact HR5
  iexact HR6
theorem ownSems0_of_slots (c : Dev nD) :
    (bigSep Finset.univ fun j : Fin 7 => iprop(semVal (sendCell c j) 0 ∗ semVal (recvCell c j) 0) : sProp 𝕄) ⊢ ownS (F := F) c := by
  rw [ownSems0_list, bigSep_sep', seven, seven]
  iintro ⟨⟨HS0, HS1, HS2, HS3, HS4, HS5, HS6⟩, HR0, HR1, HR2, HR3, HR4, HR5, HR6⟩
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HR0]; · iexact HR0
  isplitl [HR1]; · iexact HR1
  isplitl [HR2]; · iexact HR2
  isplitl [HR3]; · iexact HR3
  isplitl [HR4]; · iexact HR4
  isplitl [HR5]; · iexact HR5
  iexact HR6
theorem unscopedSems0_bar (c : Dev nD) : (unscopedSems0 c : sProp 𝕄) = semVal (barCell c) 0 := by
  unfold unscopedSems0; rw [bigSep_eq_bigSepL_of_eq [SemLoc.reg barS] (by decide) (by decide)]; rfl
theorem sems_cells (c : Dev nD) :
    iprop(ownS (F := F) c ∗ unscopedSems0 c) ⊢ (bigSep Finset.univ fun k : CI => semVal (kcell (c, k)) 0 : sProp 𝕄) := by
  rw [bigSep_CI, unscopedSems0_bar]
  iintro ⟨Ho, Hb⟩
  isplitl [Hb]; · iexact Hb
  iapply (ownSems0_slots c); iexact Ho

/-- The invariants of one device's cells. -/
theorem dev_alloc (c : Dev nD) :
    iprop(ownS (F := F) c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_cells (F := F) c) $$ [Hos Hus]
  · isplitl [Hos] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay with them -/

/-- The tokens device `c` pays with. -/
def payToks (c : Dev nD) : sProp 𝕄 :=
  bigSep Finset.univ fun j : Fin 7 => iprop(dutyTok ER (barCell (pv j c)) 0 j ∗ dutyTok ER (sendCell c j) 0 0 ∗ dutyTok ER (recvCell (nx j c) j) 0 0)

/-- Over all devices, a slot's assertion at `c` is the one at the device a hop away. -/
theorem bigSep_nx (j : Fin 7) (Φ : Dev nD → sProp 𝕄) : (bigSep Finset.univ fun c => Φ c) = bigSep Finset.univ fun c => Φ (nx j c) :=
  bigSep_univ_equiv (hop j) Φ
theorem bigSep_pv (j : Fin 7) (Φ : Dev nD → sProp 𝕄) : (bigSep Finset.univ fun c => Φ c) = bigSep Finset.univ fun c => Φ (pv j c) :=
  bigSep_univ_equiv (hop j).symm Φ

theorem toks_dealt : (bigSep Finset.univ fun c : Dev nD => (toks c : sProp 𝕄)) ⊢ bigSep Finset.univ fun c : Dev nD => payToks c := by
  unfold toks payToks
  rw [bigSep_univ_comm, bigSep_univ_comm (fun (c : Dev nD) (j : Fin 7) => iprop(dutyTok ER (barCell (pv j c)) 0 j ∗ dutyTok ER (sendCell c j) 0 0 ∗ dutyTok ER (recvCell (nx j c) j) 0 0))]
  refine Entails.of_eq (bigSep_congr fun j _ => ?_)
  rw [bigSep_sep', bigSep_sep', bigSep_sep', bigSep_sep', bigSep_pv j fun c => dutyTok ER (barCell c) 0 j, bigSep_nx j fun c => dutyTok ER (recvCell c j) 0 0]

theorem dev_intro (K : Dev nD × CI → ℕ) (c : Dev nD) :
    iprop(records m K ∗ (bigSep Finset.univ fun k : CI => atPos ER (kcell (c, k)) 0 ∅ 0) ∗ payToks c) ⊢ G' m c := by
  unfold G' payToks
  rw [bigSep_CI]
  iintro ⟨#HR, ⟨Hb, Hat⟩, Ht⟩
  iexists K
  isplitr; · iexact HR
  isplitl [Hat Ht]
  · iapply (show iprop((bigSep Finset.univ fun j : Fin 7 => iprop(atPos ER (sendCell c j) 0 ∅ 0 ∗ atPos ER (recvCell c j) 0 ∅ 0))
        ∗ bigSep Finset.univ fun j : Fin 7 => iprop(dutyTok ER (barCell (pv j c)) 0 j ∗ dutyTok ER (sendCell c j) 0 0 ∗ dutyTok ER (recvCell (nx j c) j) 0 0))
      ⊢ (bigSep Finset.univ fun j : Fin 7 => dealt c j : sProp 𝕄) from by
        rw [← bigSep_sep']
        refine bigSep_mono fun j _ => ?_
        refine (show iprop((atPos ER (sendCell c j) 0 ∅ 0 ∗ atPos ER (recvCell c j) 0 ∅ 0)
          ∗ (dutyTok ER (barCell (pv j c)) 0 j ∗ dutyTok ER (sendCell c j) 0 0 ∗ dutyTok ER (recvCell (nx j c) j) 0 0)) ⊢ (dealt c j : sProp 𝕄) from ?_)
        unfold dealt
        iintro ⟨⟨H1, H2⟩, H3, H4, H5⟩
        isplitl [H1]; · iexact H1
        isplitl [H2]; · iexact H2
        isplitl [H4]; · iexact H4
        isplitl [H5]; · iexact H5
        iexact H3)
    isplitl [Hat]; · iexact Hat
    iexact Ht
  iexact Hb

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m) κ (kcell ck) : sProp 𝕄))) $$ HI
  icases HK with ⟨%K, #HI⟩
  ihave Htk := (toks_dealt (F := F)) $$ Htok
  iapply (BI.bigSep_with_persistent (R := records m K) fun c _ => dev_intro m K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(ownS (F := F) c ∗ unscopedSems0 c ∗ G m c) : sProp 𝕄)
    ⊢ |={Set.univ}=> bigSep Finset.univ (G' m) :=
  ((bigSep_mono fun c _ => dev_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {i j : Fin 7} : Iff (recvCell a i = recvCell b j) (a = b ∧ i = j) :=
  ⟨fun h => ⟨congrArg (fun g : GSem nD τ sig => g.1.1) h, by
      have h2 : (3 : ℕ) = 3 := rfl
      have h1 : (recvS i).val = (recvS j).val := by
        have := congrArg Prod.snd h
        injection this with this
        exact congrArg Fin.val this
      simp only [recvS] at h1
      exact Fin.ext (by omega)⟩, fun h => by rw [h.1, h.2]⟩
theorem recv_ne_bar (a b : Dev nD) (j : Fin 7) : recvCell a j ≠ barCell b := fun h => by
  have := congrArg Prod.snd h
  injection this

theorem oweR_bar (d c : Dev nD) (j : Fin 7) : oweR d j (barCell c) () = 0 := by
  unfold oweR; split
  · rw [tallyAt_apply, if_neg fun h => recv_ne_bar _ _ _ h.1.symm]
  · rfl
theorem oweB_bar (d c : Dev nD) (j : Fin 7) : oweB d j (barCell c) () = if c = pv j d then 1 else 0 := by
  unfold oweB; rw [tallyAt_apply]
  by_cases h : c = pv j d
  · rw [if_pos ⟨bar_eq_iff.mpr h, rfl⟩, if_pos h]
  · rw [if_neg fun h' => h (bar_eq_iff.mp h'.1), if_neg h]
theorem oweB_recv (d c : Dev nD) (i j : Fin 7) : oweB d i (recvCell c j) () = 0 := by
  unfold oweB; rw [tallyAt_apply, if_neg fun h => recv_ne_bar _ _ _ h.1]
theorem oweR_recv (d c : Dev nD) (i j : Fin 7) : oweR d i (recvCell c j) () = (if Fwd d i ∧ c = nx i d ∧ j = i then 1 else 0) * N := by
  unfold oweR
  by_cases hF : Fwd d i
  · rw [if_pos hF, tallyAt_apply]
    by_cases h : c = nx i d ∧ j = i
    · rw [if_pos ⟨recv_eq_iff.mpr h, rfl⟩, if_pos ⟨hF, h⟩, Nat.one_mul]
    · rw [if_neg fun h' => h (recv_eq_iff.mp h'.1), if_neg fun h' => h h'.2, Nat.zero_mul]
  · rw [if_neg hF, if_neg fun h => hF h.1, Nat.zero_mul]; rfl

theorem count_bar : ∀ c : Dev nD, (∑ d : Dev nD, ∑ j : Fin 7, if c = pv j d then 1 else 0) = 7 := by decide
theorem count_recv : ∀ (c : Dev nD) (j : Fin 7), (∑ d : Dev nD, ∑ i : Fin 7, if Fwd d i ∧ c = nx i d ∧ j = i then 1 else 0) = if Bwd c j then 1 else 0 := by decide

/-- A barrier cell is owed seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  rw [O₀_sum, Pi.add_apply, Finsupp.add_apply, tally_sum_apply, tally_sum_apply, Finset.sum_eq_zero fun j _ => oweR_bar d c j, Nat.zero_add]
  exact Finset.sum_congr rfl fun j _ => oweB_bar d c j
/-- A receive cell is owed one transfer, if there is a device to send it. -/
theorem launch_recv (c : Dev nD) (j : Fin 7) (h : Bwd c j) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  have e := count_recv c j
  rw [if_pos h] at e
  rw [← Nat.one_mul N, ← e, Finset.sum_mul]
  refine Finset.sum_congr rfl fun d _ => ?_
  rw [O₀_sum, Pi.add_apply, Finsupp.add_apply, tally_sum_apply, tally_sum_apply, Finset.sum_eq_zero (s := Finset.univ) (f := fun i => oweB d i (recvCell c j) ()) fun i _ => oweB_recv d c i j,
    Nat.add_zero, Finset.sum_mul]
  exact Finset.sum_congr rfl fun i _ => oweR_recv d c i j

theorem recvLoc_injective : Function.Injective fun j : Fin 7 => (SemLoc.dma (recvS j) : SemLoc sig) := by decide

theorem creds (c : Dev nD) :
    (Pipeline.launchCred O₀ c : sProp 𝕄) ⊢ iprop(cred (tallyAt (barCell c) () 7) ∗ bigSep Finset.univ fun j : Fin 7 => landCred c j) := by
  unfold Pipeline.launchCred
  rw [bigSep_univ_at _ (SemLoc.reg barS), launch_bar]
  refine sep_mono_right ((BI.bigSep_subset (t := Finset.univ.map ⟨fun j : Fin 7 => (SemLoc.dma (recvS j) : SemLoc sig), recvLoc_injective⟩) fun s hs => ?_).trans ?_)
  · obtain ⟨j, -, rfl⟩ := Finset.mem_map.mp hs
    exact Finset.mem_erase.mpr ⟨(by rintro ⟨⟩), Finset.mem_univ _⟩
  · rw [bigSep_map]
    refine bigSep_mono fun j _ => ?_
    refine (show cred (tallyOn (recvCell c j) (launchCredit (Pipeline.owing O₀) 0 (recvCell c j))) ⊢ (landCred c j : sProp 𝕄) from ?_)
    unfold landCred
    by_cases h : Bwd c j
    · rw [if_pos h, launch_recv c j h]
    · rw [if_neg h]; iintro -; iempintro

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem first_intro (c : Dev nD) :
    iprop(start m c ∗ Pipeline.prefHeld Pipeline.Prefetch.none c (fun _ => fullShare.right) (fun k => k.elim0) ∗ Pipeline.scopedRest cfg0.spec c)
      ⊢ (rdats m ρ 0 c).Φ 0 := by
  rw [show (rdats m ρ 0 c).Φ 0 = Φfirst m c from rfl, scopedRest0_eq]
  unfold Φfirst
  iintro ⟨Hs, -, Hc, Hl, Ht⟩
  isplitl [Hs]; · iexact Hs
  isplitl [Hc]; · iexact Hc
  isplitl [Hl]; · iexact Hl
  iexact Ht

theorem last_exit (c : Dev nD) :
    (rdats m ρ 0 c).Φ (Fin.last cfg0.N) ⊢ iprop(unscopedSems0 c ∗ ownS (F := F) c ∗ Pipeline.scopedRest cfg0.spec c) := by
  rw [show (rdats m ρ 0 c).Φ (Fin.last cfg0.N) = Φlast c from rfl, scopedRest0_eq, unscopedSems0_bar]
  unfold Φlast
  iintro ⟨Hc, Hl, Ht, Hz, Hs⟩
  isplitl [Hz]; · iexact Hz
  isplitl [Hs]; · iapply (ownSems0_of_slots c); iexact Hs
  isplitl [Hc]; · iexact Hc
  isplitl [Hl]; · iexact Hl
  iexact Ht

theorem owedAt_cases (n : ℕ) : owedAt c n = O₀ c ∨ owedAt c n = O₁ c ∨ owedAt c n = 0 := by
  unfold owedAt
  by_cases h0 : n = 0
  · exact Or.inl (if_pos h0)
  · by_cases h1 : n = 16
    · exact Or.inr (Or.inr (by rw [if_neg h0, if_pos h1]))
    · exact Or.inr (Or.inl (by rw [if_neg h0, if_neg h1]))

theorem waits (c : Dev nD) : (levAts L lv : sProp 𝕄) ⊢ Pipeline.RDat.cellsWaits cfgs (rdats m ρ) () 0 c :=
  Pipeline.RDat.cellsWaits_intro cfgs (rdats m ρ) () 0 c fun w s t =>
    mayWait_stage c _ (by fin_cases w <;> fin_cases s <;> decide) _ (owedAt_cases c t.val)

/-! ## The run -/

theorem wholeAt_last : (cfg0.win (1 : Fin 2)).WholeAt t0_15 := by
  refine ⟨(flush0_1 _).mpr (by decide), fun t ht => ?_, by decide⟩
  have h := (flush0_1 t).mp ht
  have h16 := lt16 t
  exact Fin.ext (show t.val = 15 by omega)

/-- The result array after the run. -/
theorem result_closed (c : Dev nD) (A : Buf (Elt F) ((cfg0.win (1 : Fin 2)).arr.view.loc (c : Thread nD τ)))
    (h : (rdats m ρ 0 c).ArrAt (1 : Fin 2) cfg0.N A) : Closed m c (own m c) (A : Vec F S8192x1024 .bf16) := by
  obtain ⟨X, hX, hA⟩ := h.emb_eq_of_wholeAt wholeAt_last
  have hR : OutAt m c 15 X := Dat.toRRel_leaves (dat := dats m ρ 0 c) rfl hX
  unfold OutAt at hR
  rw [if_pos rfl] at hR
  have e : (A : Vec F S8192x1024 .bf16) = X := funext fun y => hA y
  rw [e]; exact hR

/-- The array of `x` after the run. -/
theorem arg_kept (c : Dev nD) (A : Buf (Elt F) ((cfg0.win (0 : Fin 2)).arr.view.loc (c : Thread nD τ)))
    (h : (rdats m ρ 0 c).ArrAt (0 : Fin 2) cfg0.N A) : A = m ((c : Thread nD τ).loc main_arg0) :=
  (congrFun ((rdats m ρ 0 c).ArrAt_in (0 : Fin 2) rfl _) A).mp h

set_option maxRecDepth 8000 in
/-- From any memory with all counters at zero every weakly fair execution of `main` on the eight devices ends; at the
    end each device's result is related to its own by `Closed`, `x` is as it was and every counter is zero. -/
theorem run_main : θ_run defs (onTc (τ := τ) (main (F := F))) (s₀ m ρ) (fun r =>
    (∀ c : Dev nD, Closed m c (own m c) (r.2.mem ((c : Thread nD τ).loc main_v1) : Vec F S8192x1024 .bf16)
      ∧ r.2.mem ((c : Thread nD τ).loc main_arg0) = m ((c : Thread nD τ).loc main_arg0)) ∧ r.2.sem = fun _ => 0) :=
  Pipeline.RDat.θ_run_region_owing_glob_pf (fun p => (cfgs p).toPCfg) (fun p => (cfgs p).toPCfg_adm) (rdats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_line m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨result_closed m ρ c _ ((h c).1 (1 : Fin 2)), arg_kept m ρ c _ ((h c).1 (0 : Fin 2))⟩, sem_eq_zero hs fun c => (h c).2.2⟩)

end Cert.KernelIdeal.Scan

end
-- ==== Proof.Value.Products.lean ====
/-
Products of consecutive entries of a sequence of extended reals, and the columns of a matrix as such sequences.
-/
module

public import Idealize.ShloMosaic.Lib.Pointwise

@[expose] public section

noncomputable section

namespace Cert.Proof.Scan

open Idealize.ShloMosaic

/-- Column `q` of a matrix of `n` rows, as a sequence: 1 past the last row. -/
def column {n : ℕ} (x : (⟨2, ![n, 1024]⟩ : Shape).Idx → EReal) (q : Fin 1024) (i : ℕ) : EReal :=
  if h : i < n then x (ix2 ⟨i, h⟩ q) else 1

/-- An entry of a column at a row of the matrix. -/
theorem column_of_lt {n : ℕ} (x : (⟨2, ![n, 1024]⟩ : Shape).Idx → EReal) (q : Fin 1024) {i : ℕ} (h : i < n) :
    column x q i = x (ix2 ⟨i, h⟩ q) := dif_pos h

/-- The product of the first `n` entries of `a`. -/
def pre (a : ℕ → EReal) (n : ℕ) : EReal := ∏ i ∈ Finset.range n, a i

/-- No entries. -/
theorem pre_zero (a : ℕ → EReal) : pre a 0 = 1 := Finset.prod_range_zero _
/-- One entry more. -/
theorem pre_succ (a : ℕ → EReal) (n : ℕ) : pre a (n + 1) = pre a n * a n := Finset.prod_range_succ _ _
/-- The first `m + n` entries are the first `m` and `n` after them. -/
theorem pre_add (a : ℕ → EReal) (m n : ℕ) : pre a (m + n) = pre a m * pre (fun i => a (m + i)) n :=
  Finset.prod_range_add _ _ _
/-- The product looks at no further entries than its own. -/
theorem pre_congr {a b : ℕ → EReal} {n : ℕ} (h : ∀ i, i < n → a i = b i) : pre a n = pre b n :=
  Finset.prod_congr rfl fun i hi => h i (Finset.mem_range.mp hi)

/-- The product of the `w` entries of `a` that end at entry `r`, or of all up to `r` where there are fewer. -/
def win (a : ℕ → EReal) (w r : ℕ) : EReal := ∏ i ∈ Finset.Ico (r + 1 - w) (r + 1), a i

/-- The window of one entry. -/
theorem win_one (a : ℕ → EReal) (r : ℕ) : win a 1 r = a r := by
  unfold win
  rw [show r + 1 - 1 = r from rfl, Finset.prod_Ico_succ_top (le_refl r), Finset.Ico_self, Finset.prod_empty, one_mul]

/-- A window times the window that ends where it begins is the window of twice the width; a window that begins at entry 0 is
    that already. -/
theorem win_double (a : ℕ → EReal) {w w' : ℕ} (hw : w' = 2 * w) (r : ℕ) :
    win a w r * (if r < w then 1 else win a w (r - w)) = win a w' r := by
  subst hw
  unfold win
  split_ifs with h
  · rw [mul_one, show r + 1 - w = 0 by omega, show r + 1 - 2 * w = 0 by omega]
  · rw [mul_comm, show r - w + 1 = r + 1 - w by omega, show r + 1 - w - w = r + 1 - 2 * w by omega]
    exact Finset.prod_Ico_consecutive _ (by omega) (by omega)

/-- A window as wide as what is before it is the product of everything up to its end. -/
theorem win_full (a : ℕ → EReal) {w r : ℕ} (h : r < w) : win a w r = pre a (r + 1) := by
  unfold win pre
  rw [show r + 1 - w = 0 by omega, Finset.range_eq_Ico]

/-- The matrix whose row `r` is the product of rows `0` to `r` of `x`. -/
def prods {n : ℕ} (x : (⟨2, ![n, 1024]⟩ : Shape).Idx → EReal) : (⟨2, ![n, 1024]⟩ : Shape).Idx → EReal :=
  fun y => pre (column x (y 1)) ((y 0).val + 1)

end Cert.Proof.Scan

end
-- ==== Proof.Value.Kernel.lean ====
/-
What the kernel's vector operations are worth, read at an index: a block's running products, the product of a device's rows, and
the product of the totals of the devices before it.
-/
module

public import proofs.«01_k».proof.Proof.Value.Products
public import proofs.«01_k».proof.Proof.KernelIdeal.Launch

@[expose] public section

noncomputable section

namespace Cert.Proof.Scan

open Idealize.ShloMosaic Idealize.ShloMosaic.TcCoe
open Cert.KernelIdeal Cert.KernelIdeal.Gen Cert.KernelIdeal.Scan

/-- A block times itself moved down by `s` rows, ones moved in. -/
theorem shifted {s t : ℕ} (hst : s + t = 512) (v : S512x1024.Idx → EReal) (o : (⟨2, ![s, 1024]⟩ : Shape).Idx → EReal) (ho : ∀ y, o y = 1)
    (hs : S512x1024.Slices ![0, 0] ⟨2, ![t, 1024]⟩) (hc : Shape.Concatenates [⟨2, ![s, 1024]⟩, ⟨2, ![t, 1024]⟩] S512x1024 0) (r : Fin 512) (q : Fin 1024) :
    concatenate S512x1024 0 [⟨⟨2, ![s, 1024]⟩, o⟩, ⟨⟨2, ![t, 1024]⟩, extractStridedSlice ⟨2, ![t, 1024]⟩ ![0, 0] v hs⟩] hc (ix2 r q)
      = if h : r.val < s then 1 else v (ix2 ⟨r.val - s, by omega⟩ q) := by
  pointwise
  split_ifs with h
  · exact ho _
  · refine congrArg v (congrArg₂ ix2 (Fin.ext rfl) (Fin.ext rfl))

/-- Every entry of `v` is the product of the `w` entries of `x` that end there in its column. -/
def Windows (x : S512x1024.Idx → EReal) (w : ℕ) (v : S512x1024.Idx → EReal) : Prop :=
  ∀ (r : Fin 512) (q : Fin 1024), v (ix2 r q) = win (column x q) w r.val

/-- One doubling: the windows of `s` entries times themselves moved down by `s` rows are the windows of `2 s` entries. -/
theorem doubled {s t w : ℕ} (hst : s + t = 512) (hw : w = 2 * s) {x v : S512x1024.Idx → EReal} (hv : Windows x s v)
    {o : (⟨2, ![s, 1024]⟩ : Shape).Idx → EReal} (ho : ∀ y, o y = 1)
    {hs : S512x1024.Slices ![0, 0] ⟨2, ![t, 1024]⟩} {hc : Shape.Concatenates [⟨2, ![s, 1024]⟩, ⟨2, ![t, 1024]⟩] S512x1024 0} :
    Windows x w (mulf (F := Ideal) (φ := .f32) v
      (concatenate S512x1024 0 [⟨⟨2, ![s, 1024]⟩, o⟩, ⟨⟨2, ![t, 1024]⟩, extractStridedSlice ⟨2, ![t, 1024]⟩ ![0, 0] v hs⟩] hc)) := by
  intro r q
  rw [← win_double (column x q) hw r.val, ← hv r q]
  refine congrArg (fun e : EReal => v (ix2 r q) * e) ((shifted hst v o ho hs hc r q).trans ?_)
  split_ifs with h
  · rfl
  · exact hv _ _

/-- A splat of the constant one. -/
theorem ones_apply (S : Shape) (y : S.Idx) : (broadcast S (Scalar.ofBits (F := Ideal) .f32 0x3F800000#32) : S.Idx → EReal) y = 1 := by
  pointwise

/-- A block's entries themselves. -/
theorem windows_one (x : S512x1024.Idx → EReal) : Windows x 1 x := fun r q => by
  rw [win_one, column_of_lt x q r.isLt]

/-- Eight doublings of a block. -/
theorem windows_block (x : S512x1024.Idx → EReal) : Windows x 256 (k0_pay8 (F := Ideal) x) := by
  unfold k0_pay8
  have e : (shapeCast S512x1024 x shapeCasts_S512x1024_S512x1024 : S512x1024.Idx → EReal) = x := by
    funext y
    pointwise
  refine doubled (s := 128) (t := 384) rfl rfl ?_ (ones_apply S128x1024)
  refine doubled (s := 64) (t := 448) rfl rfl ?_ (ones_apply S64x1024)
  refine doubled (s := 32) (t := 480) rfl rfl ?_ (ones_apply S32x1024)
  refine doubled (s := 16) (t := 496) rfl rfl ?_ (ones_apply S16x1024)
  refine doubled (s := 8) (t := 504) rfl rfl ?_ (ones_apply S8x1024)
  refine doubled (s := 4) (t := 508) rfl rfl ?_ (ones_apply S4x1024)
  refine doubled (s := 2) (t := 510) rfl rfl ?_ (ones_apply S2x1024)
  refine doubled (s := 1) (t := 511) rfl rfl ?_ (ones_apply S1x1024)
  exact (congrArg (Windows x 1) e).mpr (windows_one x)

/-- A block's running products, times the row carried in. -/
theorem block_products (x : S512x1024.Idx → EReal) (v : S1x1024.Idx → EReal) (r : Fin 512) (q : Fin 1024) :
    (k0_pay1 (F := Ideal) (k0_pay8 (F := Ideal) x) k0_pay9 v : S512x1024.Idx → EReal) (ix2 r q) = pre (column x q) (r.val + 1) * v (ix2 0 q) := by
  have h : Windows x 512 (mulf (F := Ideal) (φ := .f32) (k0_pay8 (F := Ideal) x)
      (concatenate S512x1024 0 [⟨S256x1024, k0_pay9 (F := Ideal)⟩, ⟨S256x1024, extractStridedSlice S256x1024 ![0, 0] (k0_pay8 (F := Ideal) x) slices_S512x1024_o0_0_S256x1024⟩]
        concatenates_S256x1024_S256x1024_S512x1024_d0)) :=
    doubled (s := 256) (t := 256) rfl rfl (windows_block x) (ones_apply S256x1024)
  have hr := h r q
  rw [win_full _ r.isLt] at hr
  rw [← hr]
  unfold k0_pay1
  refine congrArg₂ (fun a e : EReal => a * e) rfl ?_
  pointwise

/-- What is stored of a block. -/
theorem stored_block (x : S512x1024.Idx → EReal) (v : S1x1024.Idx → EReal) (r : Fin 512) (q : Fin 1024) :
    (k0_pay2 (F := Ideal) (k0_pay8 (F := Ideal) x) k0_pay9 v : S512x1024.Idx → EReal) (ix2 r q) = pre (column x q) (r.val + 1) * v (ix2 0 q) :=
  block_products x v r q

/-- The row carried out of a block: the product of its rows and of the row carried in. -/
theorem carried_block (x : S512x1024.Idx → EReal) (v : S1x1024.Idx → EReal) (q : Fin 1024) :
    (k0_pay3 (F := Ideal) (k0_pay8 (F := Ideal) x) k0_pay9 v : S1x1024.Idx → EReal) (ix2 0 q) = pre (column x q) 512 * v (ix2 0 q) := by
  refine Eq.trans ?_ (block_products x v ⟨511, by decide⟩ q)
  unfold k0_pay3
  generalize k0_pay1 (F := Ideal) (k0_pay8 (F := Ideal) x) k0_pay9 v = u
  pointwise

/-- The row that is carried into the first block. -/
theorem carried_first (q : Fin 1024) : (k0_pay4 (F := Ideal) : S1x1024.Idx → EReal) (ix2 0 q) = 1 := by
  pointwise [k0_pay4]

variable (m : (ℓ : Loc nD τ sig) → Buf (Elt Ideal) ℓ) (c : Dev nD)

/-- The rows of device `c`. -/
abbrev rows : S8192x1024.Idx → EReal := m ((c : Thread nD τ).loc main_arg0)

/-- The block index of the grid point. -/
theorem block_index : ∀ t : Fin grid0.N, cc0_transform_0 (grid0.coords t) = ![t.val, 0] := by decide

/-- The block staged at a grid point holds the 512 rows of that point. -/
theorem xblk_apply (t : Fin cfg0.N) (r : Fin 512) (q : Fin 1024) :
    (xblk (F := Ideal) m c t : S512x1024.Idx → EReal) (ix2 r q) = rows m c (ix2 ⟨512 * t.val + r.val, by have := lt16 t; omega⟩ q) := by
  have hi := block_index t
  refine congrArg (rows m c) (funext fun a => Fin.ext ?_)
  match a with
  | ⟨0, _⟩ =>
    show cc0_transform_0 (grid0.coords t) 0 * 512 + 1 * r.val = 512 * t.val + r.val
    rw [hi]; show t.val * 512 + 1 * r.val = _; omega
  | ⟨1, _⟩ =>
    show cc0_transform_0 (grid0.coords t) 1 * 1024 + 1 * q.val = q.val
    rw [hi]; show 0 * 1024 + 1 * q.val = _; omega

/-- A column of that block is a stretch of the device's column. -/
theorem xblk_column (t : Fin cfg0.N) (q : Fin 1024) {i : ℕ} (h : i < 512) :
    column (xblk (F := Ideal) m c t : S512x1024.Idx → EReal) q i = column (rows m c) q (512 * t.val + i) := by
  have := lt16 t
  rw [column_of_lt _ q h, column_of_lt (rows m c) q (show 512 * t.val + i < 8192 by omega)]
  exact xblk_apply m c t ⟨i, h⟩ q

/-- The row carried into block `n` is the product of the rows before it. -/
theorem carried (q : Fin 1024) : ∀ n, n ≤ 16 → (carryAt (F := Ideal) m c n : S1x1024.Idx → EReal) (ix2 0 q) = pre (column (rows m c) q) (512 * n)
  | 0, _ => (carried_first q).trans (pre_zero _).symm
  | n + 1, h => by
    have e := carry_succ (F := Ideal) m c ⟨n, by rw [show cfg0.N = 16 from N_0]; omega⟩
    have e' := congrFun e (ix2 0 q)
    refine e'.trans ((carried_block _ _ q).trans ?_)
    rw [show (carryAt (F := Ideal) m c n : S1x1024.Idx → EReal) (ix2 0 q) = _ from carried q n (by omega), Nat.mul_succ, pre_add, mul_comm]
    exact congrArg (fun e : EReal => _ * e) (pre_congr fun i hi => xblk_column m c _ q hi)

/-- The device's total is the product of its rows. -/
theorem total (q : Fin 1024) : (tot (F := Ideal) m c : S1x1024.Idx → EReal) (ix2 0 q) = pre (column (rows m c) q) 8192 := by
  refine Eq.trans ?_ (carried m c q 16 (le_refl _))
  unfold tot k0_pay6
  generalize carryAt (F := Ideal) m c 16 = u
  pointwise

/-- What the device has before the totals are multiplied in: the running products of its own rows. -/
theorem own_products (y : S8192x1024.Idx) : (own (F := Ideal) m c : S8192x1024.Idx → EReal) y = pre (column (rows m c) (y 1)) ((y 0).val + 1) := by
  have hy : (y 0).val < 8192 := (y 0).isLt
  have hn : (ptOf y).val ≤ 16 := (lt16 (ptOf y)).le
  have hb : inBlk y = ix2 ⟨(y 0).val % 512, Nat.mod_lt _ (by decide)⟩ (y 1) := eq_ix2 (inBlk y)
  show (oblk (F := Ideal) m c (ptOf y) : S512x1024.Idx → EReal) (inBlk y) = _
  rw [hb]
  refine (stored_block _ _ _ _).trans ?_
  have e : (y 0).val + 1 = 512 * (ptOf y).val + ((y 0).val % 512 + 1) := by show _ = 512 * ((y 0).val / 512) + _; omega
  have hm := Nat.mod_lt (y 0).val (show 0 < 512 by decide)
  rw [e]
  refine Eq.trans ?_ (pre_add (column (rows m c) (y 1)) _ _).symm
  rw [mul_comm]
  exact congrArg₂ (fun a e : EReal => a * e) (carried m c (y 1) _ hn) (pre_congr fun i hi => xblk_column m c _ (y 1) (by omega))

/-! ## The totals of the devices before -/

/-- Factor `j` of what a device multiplies in: slot `j`, if device `j + 1` places back is there to fill it, and one otherwise. -/
def factor (w : BitVec 1) (s : S1x1x1024.Idx → EReal) : S1x1024.Idx → EReal :=
  Scalar.select w (shapeCast S1x1024 s shapeCasts_S1x1x1024_S1x1024) (broadcast S1x1024 (Scalar.ofBits (F := Ideal) .f32 0x3F800000#32))

/-- The word that decides whether a device has one `j + 1` places back. -/
theorem has_back : ∀ (c : Dev nD) (j : Fin 7), Scalar.cmpi .sge (vw c) (BitVec.ofNat 32 (j.val + 1)) = if j.val < c.val then 1#1 else 0#1 := by
  decide

/-- What the last step stores: the device's results times the seven factors. -/
theorem last_step (s : Fin 7 → S1x1x1024.Idx → EReal) (X : S8192x1024.Idx → EReal) (r : Fin 8192) (q : Fin 1024) :
    (k0_pay7 (F := Ideal) (vw c) (k0_pay5 (F := Ideal) (vw c) (s 0) (s 1) (s 2) (s 3) (s 4)) (Scalar.cmpi .sge (vw c) 6#32) (s 5) (s 6) X : S8192x1024.Idx → EReal) (ix2 r q)
      = X (ix2 r q) * ∏ j : Fin 7, factor (Scalar.cmpi .sge (vw c) (BitVec.ofNat 32 (j.val + 1))) (s j) (ix2 0 q) := by
  generalize vw c = w
  unfold k0_pay7 k0_pay5
  pointwise [factor]
  rw [Fin.prod_univ_seven]
  rfl

/-- A factor is the total of the device `j + 1` places back, or one if there is none. -/
theorem factor_total (s : Fin 7 → S1x1x1024.Idx → EReal)
    (hs : ∀ j, Bwd c j → shapeCast S1x1024 (s j) shapeCasts_S1x1x1024_S1x1024 = (tot (F := Ideal) m (pv j c) : S1x1024.Idx → EReal)) (j : Fin 7) (q : Fin 1024) :
    factor (Scalar.cmpi .sge (vw c) (BitVec.ofNat 32 (j.val + 1))) (s j) (ix2 0 q)
      = if j.val < c.val then pre (column (rows m (pv j c)) q) 8192 else 1 := by
  rw [has_back]
  unfold factor
  split_ifs with h
  · refine Eq.trans ?_ (total m (pv j c) q)
    rw [← hs j h]
    rfl
  · exact ones_apply S1x1024 (ix2 0 q)

/-- The factors of the devices before `c`, in whichever order they come. -/
theorem factors_before (T : ℕ → EReal) : ∀ c : Fin 8,
    (∏ j : Fin 7, if j.val < c.val then T ((c.val + 7 - j.val) % 8) else 1) = ∏ d ∈ Finset.range c.val, T d := by
  intro c
  fin_cases c <;> simp [Fin.prod_univ_seven, Finset.prod_range_succ] <;> ac_rfl

/-- The products of whole devices of rows, one device after another. -/
theorem pre_devices (a : ℕ → EReal) : ∀ n, (∏ d ∈ Finset.range n, pre (fun i => a (8192 * d + i)) 8192) = pre a (8192 * n)
  | 0 => (pre_zero a).symm
  | n + 1 => by rw [Finset.prod_range_succ, pre_devices a n, Nat.mul_succ, pre_add]

/-- The rows of `x` that device `c` has. -/
abbrev blockOf (c : Fin 8) (x : (⟨2, ![65536, 1024]⟩ : Shape).Idx → EReal) : S8192x1024.Idx → EReal :=
  Layout.block ⟨2, ![8192, 1024]⟩ ⟨2, ![65536, 1024]⟩ 0 8 c x

/-- Where an entry of a device's rows is in the whole argument. -/
theorem blockOf_apply (c : Fin 8) (x : (⟨2, ![65536, 1024]⟩ : Shape).Idx → EReal) (r : Fin 8192) (q : Fin 1024) :
    blockOf c x (ix2 r q) = x (ix2 ⟨8192 * c.val + r.val, by omega⟩ q) := by
  refine congrArg x (funext fun a => Fin.ext ?_)
  match a with
  | ⟨0, _⟩ => show c.val * 8192 + r.val = 8192 * c.val + r.val; omega
  | ⟨1, _⟩ => rfl

/-- A device's column is a stretch of the whole column. -/
theorem blockOf_column (c : Fin 8) (x : (⟨2, ![65536, 1024]⟩ : Shape).Idx → EReal) (q : Fin 1024) {i : ℕ} (h : i < 8192) :
    column (n := 8192) (blockOf c x) q i = column x q (8192 * c.val + i) := by
  rw [column_of_lt _ q h, column_of_lt x q (show 8192 * c.val + i < 65536 by omega)]
  exact blockOf_apply c x ⟨i, h⟩ q

/-- A device that ends as the protocol says has its rows of the running products of the whole argument. -/
theorem closed_products (x : (⟨2, ![65536, 1024]⟩ : Shape).Idx → EReal) (hx : ∀ c, rows m c = blockOf c x) {Y : S8192x1024.Idx → EReal}
    (h : Closed (F := Ideal) m c (own (F := Ideal) m c) Y) : Y = blockOf c (prods x) := by
  funext y
  obtain ⟨r, q, rfl⟩ : ∃ (r : Fin 8192) (q : Fin 1024), y = ix2 r q := ⟨y 0, y 1, eq_ix2 y⟩
  have hp : ∀ d : Fin 8, ∀ n, n ≤ 8192 → pre (column (rows m d) q) n = pre (fun i => column x q (8192 * d.val + i)) n := fun d n hn =>
    pre_congr fun i hi => by rw [hx d]; exact blockOf_column d x q (by omega)
  have ho : (own (F := Ideal) m c : S8192x1024.Idx → EReal) (ix2 r q) = pre (fun i => column x q (8192 * c.val + i)) (r.val + 1) :=
    (own_products m c (ix2 r q)).trans (hp c _ r.isLt)
  have hr : blockOf c (prods x) (ix2 r q) = pre (column x q) (8192 * c.val + (r.val + 1)) := blockOf_apply c (prods x) r q
  rw [hr]
  by_cases h0 : 0 < c.val
  · obtain ⟨s, hs, rfl⟩ := h.2 h0
    refine (last_step c s _ r q).trans ?_
    rw [ho]
    refine Eq.trans ?_ (pre_add (column x q) _ _).symm
    rw [mul_comm]
    refine congrArg₂ (fun a e : EReal => a * e) ?_ rfl
    rw [← pre_devices, ← factors_before]
    refine Finset.prod_congr rfl fun j _ => (factor_total m c s hs j q).trans ?_
    split_ifs with hj
    · exact hp (pv j c) 8192 (le_refl _)
    · rfl
  · rw [h.1 h0, ho, show c.val = 0 by omega]
    simp only [Nat.mul_zero, Nat.zero_add]

end Cert.Proof.Scan

end
-- ==== Proof.Value.Reference.lean ====
/-
The reference's results: row `r` of them is the product of the argument's rows `0` to `r`.
-/
module

public import proofs.«01_k».proof.Proof.Value.Products
public import proofs.«01_k».proof.Proof.Gen.ReferenceIdeal.Run
public import Idealize.ShloMosaic.Lib.StableHlo.RunHlo
public import Idealize.ShloMosaic.Lib.Quiescent

@[expose] public section

noncomputable section

namespace Cert.Proof.Scan

open Idealize.ShloMosaic Idealize.ShloMosaic.TcCoe Idealize.SL.Sem
open Cert.ReferenceIdeal Cert.ReferenceIdeal.Gen Cert.ReferenceIdeal.Value
open Idealize.ShloMosaic.StableHlo

/-- Before trip `n` of the loop over the rows of `x`: the copy of `x`, the trip's number, the row carried and the rows written. -/
structure Reached (x : S65536x1024.Idx → EReal) (n : ℕ) (V : Valuation τ sig (Elt Ideal)) : Prop where
  arg : V (Proc.devRef .tc main_v2_0) = x
  num : V (Proc.devRef .tc main_v2_1) = constantI S_ 32 (BitVec.ofNat 32 n)
  row : ∀ q : Fin 1024, (V (Proc.devRef .tc main_v2_2) : S1024.Idx → EReal) (ix1 q) = pre (column x q) n
  out : ∀ (r : Fin 65536) (q : Fin 1024), r.val < n → (V (Proc.devRef .tc main_v2_3) : S65536x1024.Idx → EReal) (ix2 r q) = pre (column x q) (r.val + 1)

/-- The number of a trip, read back from its word. -/
theorem trip_word {n : ℕ} (h : n < 65536) : (BitVec.ofNat 32 n).toInt = (n : ℤ) := by
  rw [BitVec.toInt_eq_toNat_of_lt] <;> rw [BitVec.toNat_ofNat] <;> omega

/-- The start of the row that trip `n` reads and writes. -/
abbrev start (n : ℕ) : Fin 2 → ℤ := fun k =>
  (((![constantI S_ 32 (BitVec.ofNat 32 n), constantI S_ 32 0#32] : Fin 2 → (⟨S_, .i32⟩ : BufTy).Contents (Elt Ideal))) k (Shape.Idx.first h_S_)).toInt
/-- It is row `n`, -/
theorem start_0 {n : ℕ} (h : n < 65536) : start n 0 = (n : ℤ) := trip_word h
/-- column 0. -/
theorem start_1 (n : ℕ) : start n 1 = ((0 : ℕ) : ℤ) := rfl

/-- The row that trip `n` reads. -/
theorem read_row (x : S65536x1024.Idx → EReal) {n : ℕ} (h : n < 65536) (q : Fin 1024) :
    shapeCast S1024 (Host.dynamicSlice S1x1024 x (start n) sliceFits_S65536x1024_S1x1024) shapeCasts_S1x1024_S1024 (ix1 q)
      = x (ix2 ⟨n, h⟩ q) := by
  have e0 := Host.clampedStart_of_le (s := S65536x1024) (t := S1x1024) rfl (start n) 0 n (start_0 h) (show n + 1 ≤ 65536 by omega)
  have e1 := Host.clampedStart_of_le (s := S65536x1024) (t := S1x1024) rfl (start n) 1 0 (start_1 n) (le_refl 1024)
  pointwise
  refine congrArg x (congrArg₂ ix2 (Fin.ext e0) (Fin.ext ?_))
  show Host.clampedStart S65536x1024 S1x1024 _ (start n) 1 + q.val = q.val
  rw [e1, Nat.zero_add]

/-- The rows after trip `n` has written one. -/
theorem write_row (x : S65536x1024.Idx → EReal) (v : S1024.Idx → EReal) {n : ℕ} (h : n < 65536) (r : Fin 65536) (q : Fin 1024) :
    Host.dynamicUpdateSlice x (broadcastInDim S1x1024 ![1] bcast_S1024_S1x1024_1 v) (start n) updateFits_S65536x1024_S1x1024 (ix2 r q)
      = if r.val = n then v (ix1 q) else x (ix2 r q) := by
  have e0 := Host.clampedStart_of_le (s := S65536x1024) (t := S1x1024) rfl (start n) 0 n (start_0 h) (show n + 1 ≤ 65536 by omega)
  have e1 := Host.clampedStart_of_le (s := S65536x1024) (t := S1x1024) rfl (start n) 1 0 (start_1 n) (le_refl 1024)
  pointwise
  split_ifs with a b b
  · refine congrArg v (congrArg ix1 (Fin.ext ?_))
    show q.val - Host.clampedStart S65536x1024 S1x1024 _ (start n) 1 = q.val
    rw [e1, Nat.sub_zero]
  · exact absurd (by have := a.1; rw [e0] at this; omega) b
  · exact absurd ⟨by rw [e0]; omega, by rw [e1]; exact Nat.zero_le _⟩ a
  · rfl

/-- Trip `n` multiplies row `n` of the argument into the row it carries. -/
theorem carry_step {x : S65536x1024.Idx → EReal} {n : ℕ} (hn : n < 65536) {V : Valuation τ sig (Elt Ideal)} (h : Reached x n V) (q : Fin 1024) :
    (res_main_while0b_v4 V : S1024.Idx → EReal) (ix1 q) = pre (column x q) (n + 1) := by
  rw [pre_succ, column_of_lt x q hn, ← h.row q]
  unfold res_main_while0b_v4
  rw [h.num, h.arg]
  generalize (V (Proc.devRef .tc main_v2_2) : S1024.Idx → EReal) = v
  exact congrArg (fun e : EReal => HMul.hMul (α := EReal) (β := EReal) (v (ix1 q)) e) (read_row x hn q)

/-- Trip `n` writes that row as row `n` of the results and keeps the others. -/
theorem result_step {x : S65536x1024.Idx → EReal} {n : ℕ} (hn : n < 65536) {V : Valuation τ sig (Elt Ideal)} (h : Reached x n V) (r : Fin 65536) (q : Fin 1024) :
    (step_main_v2_3 V : S65536x1024.Idx → EReal) (ix2 r q)
      = if r.val = n then (res_main_while0b_v4 V : S1024.Idx → EReal) (ix1 q) else (V (Proc.devRef .tc main_v2_3) : S65536x1024.Idx → EReal) (ix2 r q) := by
  unfold step_main_v2_3
  rw [h.num]
  exact write_row _ _ hn r q

/-- One trip. -/
theorem Reached.step {x : S65536x1024.Idx → EReal} {n : ℕ} (hn : n < 65536) {V : Valuation τ sig (Elt Ideal)} (h : Reached x n V) : Reached x (n + 1) (STEP V) where
  arg := (STEP_main_v2_0 V).trans h.arg
  num := by
    rw [STEP_main_v2_1]
    unfold step_main_v2_1
    rw [h.num]
    funext i
    exact (BitVec.ofNat_add n 1).symm
  row q := by
    rw [STEP_main_v2_2]
    exact carry_step hn h q
  out r q hr := by
    rw [STEP_main_v2_3, result_step hn h]
    split_ifs with e
    · rw [carry_step hn h, e]
    · exact h.out r q (by omega)

variable (m : (ℓ : Loc nD τ sig) → Buf (Elt Ideal) ℓ) (ρ : Dev nD → PrngReg)

/-- What the loop is entered with. -/
theorem reached_zero (c : Dev nD) : Reached (m ((c.tc : Thread nD τ).loc main_arg0)) 0 (entryContents preI m c) where
  arg := by
    simp only [entryContents, StableHlo.afterL_cons, StableHlo.afterL_nil]
    after_reads_simp
    rfl
  num := (ctr_entry m c).trans rfl
  row q := by
    rw [pre_zero]
    simp only [entryContents, StableHlo.afterL_cons, StableHlo.afterL_nil]
    after_reads_simp
    show (broadcastInDim S1024 ![] bcast_S_S1024 (constant (F := Ideal) S_ .bf16 16256#16) : S1024.Idx → EReal) (ix1 q) = 1
    pointwise
  out r q hr := absurd hr (Nat.not_lt_zero _)

/-- Before every trip. -/
theorem reached (c : Dev nD) : ∀ n, n ≤ 65536 → Reached (m ((c.tc : Thread nD τ).loc main_arg0)) n (STEP^[n] (entryContents preI m c))
  | 0, _ => reached_zero m c
  | n + 1, h => by
    rw [Function.iterate_succ_apply']
    exact (reached c n (by omega)).step (by omega)

/-- The rows written when the loop ends. -/
theorem reached_end (c : Dev nD) : (STEP^[65536] (entryContents preI m c)) (Proc.devRef .tc main_v2_3) = prods (n := 65536) (m ((c.tc : Thread nD τ).loc main_arg0)) := by
  have hr := reached m c 65536 (le_refl _)
  generalize STEP^[65536] (entryContents preI m c) = V at hr ⊢
  funext y
  have h := hr.out (y 0) (y 1) (y 0).isLt
  rw [ix2_eta] at h
  exact h

/-- Every weakly fair execution of the reference ends with its result at `prods` of the argument, and with the argument unchanged. -/
theorem reference_run : θ_run (defs (F := Ideal)) (onTc (τ := τ) (main (F := Ideal))) ⟨m, fun _ => 0, ρ⟩ fun r => ∀ c : Dev nD,
    r.2.mem ((c.tc : Thread nD τ).loc main_v2_3) = prods (n := 65536) (m ((c.tc : Thread nD τ).loc main_arg0))
      ∧ r.2.mem ((c.tc : Thread nD τ).loc main_arg0) = m ((c.tc : Thread nD τ).loc main_arg0) :=
  θ_run_mono (Cert.ReferenceIdeal.Value.run (F := Ideal) m ρ) fun _ h c => ⟨(h c).1.trans (reached_end m c), (h c).2⟩

end Cert.Proof.Scan

end
-- ==== Proof.lean ====
/-
The proof of the certificate's claim: the runs of the kernel and of the reference, and what their results are worth.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Kernel.Launch
public import proofs.«01_k».proof.Proof.KernelIdeal.Launch
public import proofs.«01_k».proof.Proof.Gen.ReferenceIdeal.Run
public import proofs.«01_k».proof.Proof.Value.Kernel
public import proofs.«01_k».proof.Proof.Value.Reference
public import Idealize.ShloMosaic.Lib.StableHlo.RunHlo
public import Idealize.ShloMosaic.Lib.Quiescent

@[expose] public section

noncomputable section

namespace Cert.Proof

open Idealize.ShloMosaic Idealize.ShloMosaic.StableHlo Idealize.SL.Sem

/-- The kernel terminates, leaves its argument as it was, and every counter at zero. -/
theorem frame_kernel : Cert.quiescent_Kernel (hKernel := Cert.Kernel.Gen.facts) := fun m g _ =>
  θ_run_mono (Cert.Kernel.Scan.run_main (F := Bits) m g) fun _ h => ⟨fun c => (h.1 c).2, h.2⟩

/-- So does its idealization. -/
theorem frame_kernelIdeal : Cert.quiescent_KernelIdeal (hKernelIdeal := Cert.KernelIdeal.Gen.facts) := fun m g _ =>
  θ_run_mono (Cert.KernelIdeal.Scan.run_main (F := Ideal) m g) fun _ h => ⟨fun c => (h.1 c).2, h.2⟩

/-- So does the reference. -/
theorem frame_referenceIdeal : Cert.quiescent_ReferenceIdeal (hReferenceIdeal := Cert.ReferenceIdeal.Gen.facts) := fun m g _ =>
  θ_run_mono (Scan.reference_run m g) fun r h => ⟨fun c => (h c).2, sem_eq_zero_of_no_sems (by decide) r.2⟩

/-- Every device ends with its rows of what the reference ends with: the running products of the rows of the whole argument. -/
theorem algebraic : Cert.algebraic_KernelIdeal_ReferenceIdeal (hKernelIdeal := Cert.KernelIdeal.Gen.facts)
    (hReferenceIdeal := Cert.ReferenceIdeal.Gen.facts) := fun m g m' g' _ hx =>
  ⟨Scan.prods (n := 65536) (m' (((0 : Dev Cert.ReferenceIdeal.nD).tc : Thread Cert.ReferenceIdeal.nD Cert.ReferenceIdeal.τ).loc Cert.ReferenceIdeal.main_arg0)),
    θ_run_mono (Cert.KernelIdeal.Scan.run_main (F := Ideal) m g) fun _ h c => ⟨Scan.closed_products m c _ hx (h.1 c).1, (h.1 c).2⟩,
    θ_run_mono (Scan.reference_run m' g') fun _ h => h 0⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
